-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S5x128x4096 : Shape := ⟨3, ![5, 128, 4096]⟩
abbrev S5 : Shape := ⟨1, ![5]⟩
abbrev S_ : Shape := ⟨0, ![]⟩
abbrev S128x4096 : Shape := ⟨2, ![128, 4096]⟩
abbrev S1x128x4096 : Shape := ⟨3, ![1, 128, 4096]⟩
abbrev S1 : Shape := ⟨1, ![1]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .f32⟩
  | .local _ .vmem, ⟨3, _⟩ => ⟨S5x128x4096, .f32⟩
  | .local _ .vmem, ⟨4, _⟩ => ⟨S5x128x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 3 23 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_29 : BitVec 32 := 1#32
  let v33 : BitVec 32 := Scalar.muli v7 c1_i32_29
  let v34 : BitVec 32 := Scalar.addi c0_i32_30 v33
  v34.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_39 : BitVec 32 := 1#32
  let v43 : BitVec 32 := Scalar.muli v5 c1_i32_39
  let v44 : BitVec 32 := Scalar.addi c0_i32_40 v43
  v44.toNat
def k0_off1 (d0 : Dev nD) (c0_i32_45 : BitVec 32) (c0_i32_57 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v53 : BitVec 32 := Scalar.subi v2 c0_i32_45
  let c8_i32_46 : BitVec 32 := 8#32
  let v54 : BitVec 32 := Scalar.addi v53 c8_i32_46
  let c8_i32_47 : BitVec 32 := 8#32
  let v55 : BitVec 32 := Scalar.remsi v54 c8_i32_47
  let c512_i32 : BitVec 32 := 512#32
  let v74 : BitVec 32 := Scalar.muli v55 c512_i32
  let v75 : BitVec 32 := Scalar.addi v74 c0_i32_57
  let v76 : Index := Scalar.indexCast v75
  let c0_58 : Index := 0#32
  ![v76.toNat, 0]
def k0_off2 (d0 : Dev nD) (c0_i32_59 : BitVec 32) (c0_i32_72 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v78 : BitVec 32 := Scalar.addi v2 c0_i32_59
  let c8_i32_60 : BitVec 32 := 8#32
  let v79 : BitVec 32 := Scalar.remsi v78 c8_i32_60
  let c512_i32_71 : BitVec 32 := 512#32
  let v98 : BitVec 32 := Scalar.muli v79 c512_i32_71
  let c256_i32 : BitVec 32 := 256#32
  let v99 : BitVec 32 := Scalar.addi v98 c256_i32
  let v100 : BitVec 32 := Scalar.addi v99 c0_i32_72
  let v101 : Index := Scalar.indexCast v100
  let c0_73 : Index := 0#32
  ![v101.toNat, 0]
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_77 : BitVec 32 := 1#32
  let v103 : BitVec 32 := Scalar.muli v7 c1_i32_77
  let v104 : BitVec 32 := Scalar.addi c0_i32_78 v103
  v104.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_87 : BitVec 32 := 1#32
  let v113 : BitVec 32 := Scalar.muli v5 c1_i32_87
  let v114 : BitVec 32 := Scalar.addi c0_i32_88 v113
  v114.toNat
def k0_dev7 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_147 : BitVec 32 := 1#32
  let v189 : BitVec 32 := Scalar.muli v7 c1_i32_147
  let v190 : BitVec 32 := Scalar.addi c0_i32_148 v189
  v190.toNat
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_157 : BitVec 32 := 1#32
  let v199 : BitVec 32 := Scalar.muli v5 c1_i32_157
  let v200 : BitVec 32 := Scalar.addi c0_i32_158 v199
  v200.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_213 : BitVec 32 := 1#32
  let v271 : BitVec 32 := Scalar.muli v5 c1_i32_213
  let v272 : BitVec 32 := Scalar.addi c0_i32_214 v271
  v272.toNat
def k0_dev10 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_216 : BitVec 32 := 1#32
  let v273 : BitVec 32 := Scalar.muli v7 c1_i32_216
  let v274 : BitVec 32 := Scalar.addi c0_i32_217 v273
  v274.toNat
def k0_dev11 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_246 : BitVec 32 := 1#32
  let v291 : BitVec 32 := Scalar.muli v7 c1_i32_246
  let v292 : BitVec 32 := Scalar.addi c0_i32_247 v291
  v292.toNat
def k0_dev12 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_256 : BitVec 32 := 1#32
  let v301 : BitVec 32 := Scalar.muli v5 c1_i32_256
  let v302 : BitVec 32 := Scalar.addi c0_i32_257 v301
  v302.toNat
def k0_dev13 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_312 : BitVec 32 := 1#32
  let v373 : BitVec 32 := Scalar.muli v5 c1_i32_312
  let v374 : BitVec 32 := Scalar.addi c0_i32_313 v373
  v374.toNat
def k0_dev14 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_315 : BitVec 32 := 1#32
  let v375 : BitVec 32 := Scalar.muli v7 c1_i32_315
  let v376 : BitVec 32 := Scalar.addi c0_i32_316 v375
  v376.toNat
def k0_dev15 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_345 : BitVec 32 := 1#32
  let v393 : BitVec 32 := Scalar.muli v7 c1_i32_345
  let v394 : BitVec 32 := Scalar.addi c0_i32_346 v393
  v394.toNat
def k0_dev16 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_355 : BitVec 32 := 1#32
  let v403 : BitVec 32 := Scalar.muli v5 c1_i32_355
  let v404 : BitVec 32 := Scalar.addi c0_i32_356 v403
  v404.toNat
def k0_dev17 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_411 : BitVec 32 := 1#32
  let v475 : BitVec 32 := Scalar.muli v5 c1_i32_411
  let v476 : BitVec 32 := Scalar.addi c0_i32_412 v475
  v476.toNat
def k0_dev18 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_414 : BitVec 32 := 1#32
  let v477 : BitVec 32 := Scalar.muli v7 c1_i32_414
  let v478 : BitVec 32 := Scalar.addi c0_i32_415 v477
  v478.toNat
def k0_dev19 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_444 : BitVec 32 := 1#32
  let v495 : BitVec 32 := Scalar.muli v7 c1_i32_444
  let v496 : BitVec 32 := Scalar.addi c0_i32_445 v495
  v496.toNat
def k0_dev20 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_454 : BitVec 32 := 1#32
  let v505 : BitVec 32 := Scalar.muli v5 c1_i32_454
  let v506 : BitVec 32 := Scalar.addi c0_i32_455 v505
  v506.toNat
def k0_dev21 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_511 : BitVec 32 := 1#32
  let v577 : BitVec 32 := Scalar.muli v5 c1_i32_511
  let v578 : BitVec 32 := Scalar.addi c0_i32_512 v577
  v578.toNat
def k0_dev22 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_514 : BitVec 32 := 1#32
  let v579 : BitVec 32 := Scalar.muli v7 c1_i32_514
  let v580 : BitVec 32 := Scalar.addi c0_i32_515 v579
  v580.toNat
def k0_dev23 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_544 : BitVec 32 := 1#32
  let v597 : BitVec 32 := Scalar.muli v7 c1_i32_544
  let v598 : BitVec 32 := Scalar.addi c0_i32_545 v597
  v598.toNat
def k0_dev24 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_554 : BitVec 32 := 1#32
  let v607 : BitVec 32 := Scalar.muli v5 c1_i32_554
  let v608 : BitVec 32 := Scalar.addi c0_i32_555 v607
  v608.toNat
def k0_dev25 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_611 : BitVec 32 := 1#32
  let v679 : BitVec 32 := Scalar.muli v5 c1_i32_611
  let v680 : BitVec 32 := Scalar.addi c0_i32_612 v679
  v680.toNat
def k0_dev26 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_614 : BitVec 32 := 1#32
  let v681 : BitVec 32 := Scalar.muli v7 c1_i32_614
  let v682 : BitVec 32 := Scalar.addi c0_i32_615 v681
  v682.toNat
def k0_dev27 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_644 : BitVec 32 := 1#32
  let v699 : BitVec 32 := Scalar.muli v7 c1_i32_644
  let v700 : BitVec 32 := Scalar.addi c0_i32_645 v699
  v700.toNat
def k0_dev28 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_654 : BitVec 32 := 1#32
  let v709 : BitVec 32 := Scalar.muli v5 c1_i32_654
  let v710 : BitVec 32 := Scalar.addi c0_i32_655 v709
  v710.toNat
def k0_dev29 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_711 : BitVec 32 := 1#32
  let v781 : BitVec 32 := Scalar.muli v5 c1_i32_711
  let v782 : BitVec 32 := Scalar.addi c0_i32_712 v781
  v782.toNat
def k0_dev30 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_714 : BitVec 32 := 1#32
  let v783 : BitVec 32 := Scalar.muli v7 c1_i32_714
  let v784 : BitVec 32 := Scalar.addi c0_i32_715 v783
  v784.toNat
def k0_dev31 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_744 : BitVec 32 := 1#32
  let v801 : BitVec 32 := Scalar.muli v7 c1_i32_744
  let v802 : BitVec 32 := Scalar.addi c0_i32_745 v801
  v802.toNat
def k0_dev32 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_754 : BitVec 32 := 1#32
  let v811 : BitVec 32 := Scalar.muli v5 c1_i32_754
  let v812 : BitVec 32 := Scalar.addi c0_i32_755 v811
  v812.toNat
def k0_dev33 (d0 : Dev nD) : Nat :=
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_811 : BitVec 32 := 1#32
  let v883 : BitVec 32 := Scalar.muli v5 c1_i32_811
  let v884 : BitVec 32 := Scalar.addi c0_i32_812 v883
  v884.toNat
def k0_dev34 (d0 : Dev nD) : Nat :=
  let c0_i32_815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_814 : BitVec 32 := 1#32
  let v885 : BitVec 32 := Scalar.muli v7 c1_i32_814
  let v886 : BitVec 32 := Scalar.addi c0_i32_815 v885
  v886.toNat
def k0_dev35 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_844 : BitVec 32 := 1#32
  let v903 : BitVec 32 := Scalar.muli v7 c1_i32_844
  let v904 : BitVec 32 := Scalar.addi c0_i32_845 v903
  v904.toNat
def k0_dev36 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_854 : BitVec 32 := 1#32
  let v913 : BitVec 32 := Scalar.muli v5 c1_i32_854
  let v914 : BitVec 32 := Scalar.addi c0_i32_855 v913
  v914.toNat
def k0_dev37 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_911 : BitVec 32 := 1#32
  let v985 : BitVec 32 := Scalar.muli v5 c1_i32_911
  let v986 : BitVec 32 := Scalar.addi c0_i32_912 v985
  v986.toNat
def k0_dev38 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_914 : BitVec 32 := 1#32
  let v987 : BitVec 32 := Scalar.muli v7 c1_i32_914
  let v988 : BitVec 32 := Scalar.addi c0_i32_915 v987
  v988.toNat
def k0_dev39 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_944 : BitVec 32 := 1#32
  let v1005 : BitVec 32 := Scalar.muli v7 c1_i32_944
  let v1006 : BitVec 32 := Scalar.addi c0_i32_945 v1005
  v1006.toNat
def k0_dev40 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_954 : BitVec 32 := 1#32
  let v1015 : BitVec 32 := Scalar.muli v5 c1_i32_954
  let v1016 : BitVec 32 := Scalar.addi c0_i32_955 v1015
  v1016.toNat
def k0_dev41 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1010 : BitVec 32 := 1#32
  let v1087 : BitVec 32 := Scalar.muli v5 c1_i32_1010
  let v1088 : BitVec 32 := Scalar.addi c0_i32_1011 v1087
  v1088.toNat
def k0_dev42 (d0 : Dev nD) : Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1013 : BitVec 32 := 1#32
  let v1089 : BitVec 32 := Scalar.muli v7 c1_i32_1013
  let v1090 : BitVec 32 := Scalar.addi c0_i32_1014 v1089
  v1090.toNat
def k0_dev43 (d0 : Dev nD) : Nat :=
  let c0_i32_1044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1043 : BitVec 32 := 1#32
  let v1107 : BitVec 32 := Scalar.muli v7 c1_i32_1043
  let v1108 : BitVec 32 := Scalar.addi c0_i32_1044 v1107
  v1108.toNat
def k0_dev44 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1053 : BitVec 32 := 1#32
  let v1117 : BitVec 32 := Scalar.muli v5 c1_i32_1053
  let v1118 : BitVec 32 := Scalar.addi c0_i32_1054 v1117
  v1118.toNat
def k0_dev45 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1110 : BitVec 32 := 1#32
  let v1189 : BitVec 32 := Scalar.muli v5 c1_i32_1110
  let v1190 : BitVec 32 := Scalar.addi c0_i32_1111 v1189
  v1190.toNat
def k0_dev46 (d0 : Dev nD) : Nat :=
  let c0_i32_1114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1113 : BitVec 32 := 1#32
  let v1191 : BitVec 32 := Scalar.muli v7 c1_i32_1113
  let v1192 : BitVec 32 := Scalar.addi c0_i32_1114 v1191
  v1192.toNat
def k0_dev47 (d0 : Dev nD) : Nat :=
  let c0_i32_1144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1143 : BitVec 32 := 1#32
  let v1209 : BitVec 32 := Scalar.muli v7 c1_i32_1143
  let v1210 : BitVec 32 := Scalar.addi c0_i32_1144 v1209
  v1210.toNat
def k0_dev48 (d0 : Dev nD) : Nat :=
  let c0_i32_1154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1153 : BitVec 32 := 1#32
  let v1219 : BitVec 32 := Scalar.muli v5 c1_i32_1153
  let v1220 : BitVec 32 := Scalar.addi c0_i32_1154 v1219
  v1220.toNat
def k0_dev49 (d0 : Dev nD) : Nat :=
  let c0_i32_1210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1209 : BitVec 32 := 1#32
  let v1291 : BitVec 32 := Scalar.muli v5 c1_i32_1209
  let v1292 : BitVec 32 := Scalar.addi c0_i32_1210 v1291
  v1292.toNat
def k0_dev50 (d0 : Dev nD) : Nat :=
  let c0_i32_1213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1212 : BitVec 32 := 1#32
  let v1293 : BitVec 32 := Scalar.muli v7 c1_i32_1212
  let v1294 : BitVec 32 := Scalar.addi c0_i32_1213 v1293
  v1294.toNat
def k0_dev51 (d0 : Dev nD) : Nat :=
  let c0_i32_1243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1242 : BitVec 32 := 1#32
  let v1311 : BitVec 32 := Scalar.muli v7 c1_i32_1242
  let v1312 : BitVec 32 := Scalar.addi c0_i32_1243 v1311
  v1312.toNat
def k0_dev52 (d0 : Dev nD) : Nat :=
  let c0_i32_1253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1252 : BitVec 32 := 1#32
  let v1321 : BitVec 32 := Scalar.muli v5 c1_i32_1252
  let v1322 : BitVec 32 := Scalar.addi c0_i32_1253 v1321
  v1322.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Prog.lean ====
/-
The kernel of one device, written as a loop.

The printed body is one long straight line of operations: an opening handshake, the four stores that put the
device's own rows in the two ring buffers, and then sixteen unrolled steps.  Here a step is written once, for a
symbolic step number, and `body_eq` states that the printed body is the opening followed by the sixteen steps.
-/
module

public import proofs.«01_k».proof.Proof.Gen.KernelIdeal
public import proofs.«01_k».proof.Proof.Gen.KernelIdeal.Skeleton
public import Idealize.ShloMosaic.Lib.Pipeline.Kit
public import Idealize.ShloMosaic.Lib.Pipeline.Regions
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL.Sem

variable {F : FTy → Type} [FloatOps F]

/-- What one direction of the ring works with: its buffer of five slots, the semaphores its sends and its
    arrivals are counted on, and the semaphore on which the device ahead grants slots. -/
structure Dir where
  buf : Memref sig .tc .vmem S5x128x4096 .f32
  ss : DmaSems sig S5
  rs : DmaSems sig S5
  cr : Sems sig S_

theorem inbSlot (i : Fin 5) : ∀ a, (![i.val, 0, 0] : Fin 3 → Nat) a + S1x128x4096.size a ≤ S5x128x4096.size a := by
  revert i; decide
theorem inbSem (i : Fin 5) : ∀ a, (![i.val] : Fin 1 → Nat) a + S1.size a ≤ S5.size a := by
  revert i; decide

/-- The slot of chunk `j`. -/
def sl (j : ℕ) : Fin 5 := ⟨j % 5, Nat.mod_lt _ (by decide)⟩

/-- The rectangle of a slot inside its buffer. -/
abbrev slotRect (i : Fin 5) : Rect S5x128x4096 :=
  Rect.unit (s := S5x128x4096) ![i.val, 0, 0] S1x128x4096.size (inbSlot i)

/-- A slot as a matrix of 128 rows. -/
abbrev slotOf (M : Memref sig .tc .vmem S5x128x4096 .f32) (i : Fin 5) : Memref sig .tc .vmem S128x4096 .f32 :=
  (M.slice (slotRect i) (fun _ => rfl)).squeeze S128x4096 squeezes_S1x128x4096_S128x4096

/-- One semaphore of a row of five. -/
abbrev semOf (A : DmaSems sig S5) (i : Fin 5) : DmaSems sig S_ :=
  (A.slice (Rect.unit (s := S5) ![i.val] S1.size (inbSem i))).squeeze S_ squeezes_S1_S_

abbrev K := Prog (TpuEff nD τ sig (Elt F) Λ₀ .tc) PUnit

/-- Wait for chunk `j` to arrive. -/
def recvWait (A : Dir) (j : ℕ) : K (F := F) :=
  Prog.lift (.waitDma2 (semOf A.rs (sl j)).sem (slotOf A.buf (sl (j + 3))) (slotOf A.buf (sl j))
    ((View.wordExact_bits rfl).reshape _ _) ((View.wordExact_bits rfl).reshape _ _))

/-- Send chunk `j` on, into the slot of chunk `j + 2` at device `d`. -/
def send (A : Dir) (d : Dev nD) (j : ℕ) : K (F := F) :=
  Prog.lift (.enqueueDma (slotOf A.buf (sl j))
    (.remote (Dev.tc d) (slotOf A.buf (sl (j + 2))) (.dma (semOf A.ss (sl j)).sem)) (.dma (semOf A.rs (sl (j + 2))).sem)
    ((View.wordExact_bits rfl).reshape _ _) ((View.wordExact_bits rfl).reshape _ _) ⟨⟨rfl, Or.inl rfl⟩, trivial⟩)

/-- Wait until chunk `j - 2`, sent two steps ago, has left. -/
def sendWait (A : Dir) (j : ℕ) : K (F := F) :=
  Prog.lift (.waitDma2 (semOf A.ss (sl (j + 3))).sem (slotOf A.buf (sl j)) (slotOf A.buf (sl (j + 3)))
    ((View.wordExact_bits rfl).reshape _ _) ((View.wordExact_bits rfl).reshape _ _))

/-- Multiply chunk `j` by the device's columns, apply the activation, and store the rows at `off`. -/
def gemm (arg1 arg2 : Memref sig .tc .vmem S4096x1024 .f32) (A : Dir) (j : ℕ) (off : Fin 2 → Nat)
    (h : ∀ a, off a + S128x1024.size a ≤ S4096x1024.size a) : K (F := F) := do
  let a : Vec F S1x128x4096 .f32 ← Prog.lift (.load A.buf (slotRect (sl j)).toLoadRect (View.loadsAt_vmem h_S1x128x4096))
  let b : Vec F S4096x1024 .f32 ← Prog.lift (.load arg1 (Rect.unit (s := S4096x1024) ![0, 0] S4096x1024.size inb_S4096x1024_S4096x1024_0_0).toLoadRect (View.loadsAt_vmem h_S4096x1024))
  let _c : Vec F S128x1024 .f32 ← Prog.lift (.load arg2 (Rect.unit (s := S4096x1024) off S128x1024.size h).toLoadRect (View.loadsAt_vmem h_S128x1024))
  Prog.lift (.store arg2 (Rect.unit (s := S4096x1024) off S128x1024.size h) (k0_pay6 a b) Finset.univ (View.stores_vmem_bits_univ h_S128x1024 rfl) (.inl rfl))

/-- The step's quarter and the number of hops its chunks have made. -/
abbrev hop (j : ℕ) : Fin 8 := ⟨j / 2 % 8, Nat.mod_lt _ (by decide)⟩
abbrev qtr (j : ℕ) : Fin 2 := ⟨j % 2, Nat.mod_lt _ (by decide)⟩

abbrev offA (c : Dev nD) (j : ℕ) : Fin 2 → Nat := k0_off1 c (BitVec.ofNat 32 (hop j).val) (BitVec.ofNat 32 (128 * (qtr j).val))
abbrev offB (c : Dev nD) (j : ℕ) : Fin 2 → Nat := k0_off2 c (BitVec.ofNat 32 (hop j).val) (BitVec.ofNat 32 (128 * (qtr j).val))

/-- One operation of a step, in both directions, the clockwise one first. -/
def both (p q : K (F := F)) : K (F := F) := do p; q

/-- An operation only some steps have. -/
def only (b : Bool) (p : K (F := F)) : K (F := F) := bif b then p else pure ⟨⟩

/-- Step `j` of device `c`: `dA`, `dB` are where its two chunks are sent, `gA`, `gB` the devices it grants a slot to. -/
def step (arg1 arg2 : Memref sig .tc .vmem S4096x1024 .f32) (A B : Dir) (c dA dB gA gB : Dev nD) (j : ℕ) : K (F := F) := do
  only (decide (2 ≤ j)) (both (recvWait A j) (recvWait B j))
  only (decide (3 ≤ j) && decide (j < 14)) (both (semWaitWord A.cr.sem 1#32) (semWaitWord B.cr.sem 1#32))
  only (decide (j < 14)) (both (send A dA j) (send B dB j))
  both (gemm arg1 arg2 A j (offA c j) (k0_off1_inb c (hop j) (qtr j))) (gemm arg1 arg2 B j (offB c j) (k0_off2_inb c (hop j) (qtr j)))
  only (decide (2 ≤ j)) (both (sendWait A j) (sendWait B j))
  only (decide (2 ≤ j) && decide (j < 13)) (both (semSignalWord (gA : Dev nD) A.cr.sem 1#32) (semSignalWord (gB : Dev nD) B.cr.sem 1#32))

/-- Copy 128 rows of the device's own block into a slot. -/
def own (arg0 : Memref sig .tc .vmem S512x4096 .f32) (M : Memref sig .tc .vmem S5x128x4096 .f32) (r : Fin 2 → Nat)
    (hr : ∀ a, r a + S128x4096.size a ≤ S512x4096.size a) (i : Fin 5) : K (F := F) := do
  let v : Vec F S128x4096 .f32 ← Prog.lift (.load arg0 (Rect.unit (s := S512x4096) r S128x4096.size hr).toLoadRect (View.loadsAt_vmem h_S128x4096))
  let _w : Vec F S1x128x4096 .f32 ← Prog.lift (.load M (slotRect i).toLoadRect (View.loadsAt_vmem h_S1x128x4096))
  Prog.lift (.store M (slotRect i) (k0_pay1 v) Finset.univ (View.stores_vmem_bits_univ h_S1x128x4096 rfl) (.inl rfl))

/-- The handshake with both neighbours. -/
def greet (dL dR : Dev nD) : K (F := F) := do
  semSignalWord dL (SemArray.scalar (sig.barrier 0 rfl) : Sems sig S_).sem 1#32
  semSignalWord dR (SemArray.scalar (sig.barrier 0 rfl) : Sems sig S_).sem 1#32
  semWaitWord (SemArray.scalar (sig.barrier 0 rfl) : Sems sig S_).sem 2#32

/-- The device's own four chunks into the first two slots of both buffers. -/
def fill (arg0 : Memref sig .tc .vmem S512x4096 .f32) (A B : Dir) : K (F := F) := do
  own arg0 A.buf ![0, 0] inb_S512x4096_S128x4096_0_0 0
  own arg0 A.buf ![128, 0] inb_S512x4096_S128x4096_128_0 1
  own arg0 B.buf ![256, 0] inb_S512x4096_S128x4096_256_0 0
  own arg0 B.buf ![384, 0] inb_S512x4096_S128x4096_384_0 1

/-- The sixteen steps with the devices as they are printed. -/
def steps₀ (arg1 arg2 : Memref sig .tc .vmem S4096x1024 .f32) (A B : Dir) (c : Dev nD) : K (F := F) := do
  step arg1 arg2 A B c ⟨k0_dev3 c, k0_dev3_lt c⟩ ⟨k0_dev4 c, k0_dev4_lt c⟩ c c 0
  step arg1 arg2 A B c ⟨k0_dev5 c, k0_dev5_lt c⟩ ⟨k0_dev6 c, k0_dev6_lt c⟩ c c 1
  step arg1 arg2 A B c ⟨k0_dev7 c, k0_dev7_lt c⟩ ⟨k0_dev8 c, k0_dev8_lt c⟩ ⟨k0_dev9 c, k0_dev9_lt c⟩ ⟨k0_dev10 c, k0_dev10_lt c⟩ 2
  step arg1 arg2 A B c ⟨k0_dev11 c, k0_dev11_lt c⟩ ⟨k0_dev12 c, k0_dev12_lt c⟩ ⟨k0_dev13 c, k0_dev13_lt c⟩ ⟨k0_dev14 c, k0_dev14_lt c⟩ 3
  step arg1 arg2 A B c ⟨k0_dev15 c, k0_dev15_lt c⟩ ⟨k0_dev16 c, k0_dev16_lt c⟩ ⟨k0_dev17 c, k0_dev17_lt c⟩ ⟨k0_dev18 c, k0_dev18_lt c⟩ 4
  step arg1 arg2 A B c ⟨k0_dev19 c, k0_dev19_lt c⟩ ⟨k0_dev20 c, k0_dev20_lt c⟩ ⟨k0_dev21 c, k0_dev21_lt c⟩ ⟨k0_dev22 c, k0_dev22_lt c⟩ 5
  step arg1 arg2 A B c ⟨k0_dev23 c, k0_dev23_lt c⟩ ⟨k0_dev24 c, k0_dev24_lt c⟩ ⟨k0_dev25 c, k0_dev25_lt c⟩ ⟨k0_dev26 c, k0_dev26_lt c⟩ 6
  step arg1 arg2 A B c ⟨k0_dev27 c, k0_dev27_lt c⟩ ⟨k0_dev28 c, k0_dev28_lt c⟩ ⟨k0_dev29 c, k0_dev29_lt c⟩ ⟨k0_dev30 c, k0_dev30_lt c⟩ 7
  step arg1 arg2 A B c ⟨k0_dev31 c, k0_dev31_lt c⟩ ⟨k0_dev32 c, k0_dev32_lt c⟩ ⟨k0_dev33 c, k0_dev33_lt c⟩ ⟨k0_dev34 c, k0_dev34_lt c⟩ 8
  step arg1 arg2 A B c ⟨k0_dev35 c, k0_dev35_lt c⟩ ⟨k0_dev36 c, k0_dev36_lt c⟩ ⟨k0_dev37 c, k0_dev37_lt c⟩ ⟨k0_dev38 c, k0_dev38_lt c⟩ 9
  step arg1 arg2 A B c ⟨k0_dev39 c, k0_dev39_lt c⟩ ⟨k0_dev40 c, k0_dev40_lt c⟩ ⟨k0_dev41 c, k0_dev41_lt c⟩ ⟨k0_dev42 c, k0_dev42_lt c⟩ 10
  step arg1 arg2 A B c ⟨k0_dev43 c, k0_dev43_lt c⟩ ⟨k0_dev44 c, k0_dev44_lt c⟩ ⟨k0_dev45 c, k0_dev45_lt c⟩ ⟨k0_dev46 c, k0_dev46_lt c⟩ 11
  step arg1 arg2 A B c ⟨k0_dev47 c, k0_dev47_lt c⟩ ⟨k0_dev48 c, k0_dev48_lt c⟩ ⟨k0_dev49 c, k0_dev49_lt c⟩ ⟨k0_dev50 c, k0_dev50_lt c⟩ 12
  step arg1 arg2 A B c ⟨k0_dev51 c, k0_dev51_lt c⟩ ⟨k0_dev52 c, k0_dev52_lt c⟩ c c 13
  step arg1 arg2 A B c c c c c 14
  step arg1 arg2 A B c c c c c 15

/-- The printed body, as the opening and the sixteen steps. -/
def body₀ (arg0 : Memref sig .tc .vmem S512x4096 .f32) (arg1 arg2 : Memref sig .tc .vmem S4096x1024 .f32) (A B : Dir) : K (F := F) := do
  let c : Dev nD ← Prog.lift .deviceId
  greet ⟨k0_dev1 c, k0_dev1_lt c⟩ ⟨k0_dev2 c, k0_dev2_lt c⟩
  fill arg0 A B
  steps₀ arg1 arg2 A B c

set_option maxRecDepth 65536 in
theorem body_eq₀ (arg0 : Memref sig .tc .vmem S512x4096 .f32) (harg0 : arg0.IsWhole) (arg1 : Memref sig .tc .vmem S4096x1024 .f32) (harg1 : arg1.IsWhole) (arg2 : Memref sig .tc .vmem S4096x1024 .f32) (harg2 : arg2.IsWhole) (arg3 : Memref sig .tc .vmem S5x128x4096 .f32) (harg3 : arg3.IsWhole) (arg4 : Memref sig .tc .vmem S5x128x4096 .f32) (harg4 : arg4.IsWhole) (arg5 : DmaSems sig S5) (arg6 : DmaSems sig S5) (arg7 : DmaSems sig S5) (arg8 : DmaSems sig S5) (arg9 : Sems sig S_) (arg10 : Sems sig S_) :
    cc0_body_skel (F := F) arg0 harg0 arg1 harg1 arg2 harg2 arg3 harg3 arg4 harg4 arg5 arg6 arg7 arg8 arg9 arg10
      = body₀ arg0 arg1 arg2 ⟨arg3, arg5, arg6, arg9⟩ ⟨arg4, arg7, arg8, arg10⟩ := by
  chain_rfl

/-- The devices after and before `c` on the ring. -/
def nxt (c : Dev nD) : Dev nD := ⟨(c.val + 1) % 8, Nat.mod_lt _ (by decide)⟩
def prv (c : Dev nD) : Dev nD := ⟨(c.val + 7) % 8, Nat.mod_lt _ (by decide)⟩

/-- The last `n` of the sixteen steps. -/
def run (arg1 arg2 : Memref sig .tc .vmem S4096x1024 .f32) (A B : Dir) (c : Dev nD) : ℕ → K (F := F)
  | 0 => pure ⟨⟩
  | n + 1 => do step arg1 arg2 A B c (nxt c) (prv c) (prv c) (nxt c) (15 - n); run arg1 arg2 A B c n

theorem steps_eq (arg1 arg2 : Memref sig .tc .vmem S4096x1024 .f32) (A B : Dir) (c : Dev nD) :
    steps₀ (F := F) arg1 arg2 A B c = run arg1 arg2 A B c 16 := by
  unfold steps₀
  simp only [k0_dev1_eq, k0_dev2_eq, k0_dev3_eq, k0_dev4_eq, k0_dev5_eq, k0_dev6_eq, k0_dev7_eq, k0_dev8_eq, k0_dev9_eq,
    k0_dev10_eq, k0_dev11_eq, k0_dev12_eq, k0_dev13_eq, k0_dev14_eq, k0_dev15_eq, k0_dev16_eq, k0_dev17_eq,
    k0_dev18_eq, k0_dev19_eq, k0_dev20_eq, k0_dev21_eq, k0_dev22_eq, k0_dev23_eq, k0_dev24_eq, k0_dev25_eq,
    k0_dev26_eq, k0_dev27_eq, k0_dev28_eq, k0_dev29_eq, k0_dev30_eq, k0_dev31_eq, k0_dev32_eq, k0_dev33_eq,
    k0_dev34_eq, k0_dev35_eq, k0_dev36_eq, k0_dev37_eq, k0_dev38_eq, k0_dev39_eq, k0_dev40_eq, k0_dev41_eq,
    k0_dev42_eq, k0_dev43_eq, k0_dev44_eq, k0_dev45_eq, k0_dev46_eq, k0_dev47_eq, k0_dev48_eq, k0_dev49_eq,
    k0_dev50_eq, k0_dev51_eq, k0_dev52_eq]
  simp only [run, bind_pure_unit]
  rfl

/-- The body, as the opening and the sixteen steps in a loop. -/
def body (arg0 : Memref sig .tc .vmem S512x4096 .f32) (arg1 arg2 : Memref sig .tc .vmem S4096x1024 .f32) (A B : Dir) : K (F := F) := do
  let c : Dev nD ← Prog.lift .deviceId
  greet (prv c) (nxt c)
  fill arg0 A B
  run arg1 arg2 A B c 16

theorem body_eq (arg0 : Memref sig .tc .vmem S512x4096 .f32) (harg0 : arg0.IsWhole) (arg1 : Memref sig .tc .vmem S4096x1024 .f32) (harg1 : arg1.IsWhole) (arg2 : Memref sig .tc .vmem S4096x1024 .f32) (harg2 : arg2.IsWhole) (arg3 : Memref sig .tc .vmem S5x128x4096 .f32) (harg3 : arg3.IsWhole) (arg4 : Memref sig .tc .vmem S5x128x4096 .f32) (harg4 : arg4.IsWhole) (arg5 : DmaSems sig S5) (arg6 : DmaSems sig S5) (arg7 : DmaSems sig S5) (arg8 : DmaSems sig S5) (arg9 : Sems sig S_) (arg10 : Sems sig S_) :
    cc0_body (F := F) arg0 harg0 arg1 harg1 arg2 harg2 arg3 harg3 arg4 harg4 arg5 arg6 arg7 arg8 arg9 arg10
      = body arg0 arg1 arg2 ⟨arg3, arg5, arg6, arg9⟩ ⟨arg4, arg7, arg8, arg10⟩ := by
  rw [cc0_body_eq_skeleton, body_eq₀]
  unfold body₀ body
  simp only [steps_eq, k0_dev1_eq, k0_dev2_eq]
  rfl

end Cert.KernelIdeal.Ring
-- ==== Proof.KernelIdeal.Proto.lean ====
/-
The ring's protocol: the semaphores of one device, what each arrival brings, and what each device owes.

Both directions of the ring follow the same rules, so everything is stated for a direction `s`: `false` is the
one in which chunks move to the next device, `true` the one in which they move to the previous device.
-/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- A slot is granted once per send: the receiving device's grant for send `k` of a direction, by the sender. -/
abbrev Key : Type := Dev nD × Bool × ℕ
abbrev UB : Type := URounds (GSem nD τ sig) ℕ
abbrev UU : Type := UR sig nD τ × (UB × Release.USlots Key)

local notation "𝕄" => MT nD τ sig ℕ (Elt F) ℕ UU ℕ

abbrev EP : Emb (UR sig nD τ) (MT nD τ sig ℕ (Elt F) ℕ UU ℕ) := embL
abbrev EQ : Emb (UB × Release.USlots Key) (MT nD τ sig ℕ (Elt F) ℕ UU ℕ) := embR
abbrev ER : Emb UB (MT nD τ sig ℕ (Elt F) ℕ UU ℕ) := (Emb.inl : Emb UB (UB × Release.USlots Key)).trans EQ
abbrev ES : Emb (Release.USlots Key) (MT nD τ sig ℕ (Elt F) ℕ UU ℕ) := (Emb.inr : Emb (Release.USlots Key) (UB × Release.USlots Key)).trans EQ

/-! ## The ring -/

/-- Where direction `s` sends to, and where it receives from. -/
def tgt (s : Bool) (c : Dev nD) : Dev nD := bif s then prv c else nxt c
def src (s : Bool) (c : Dev nD) : Dev nD := bif s then nxt c else prv c

theorem src_tgt (s : Bool) (c : Dev nD) : src s (tgt s c) = c := by revert s c; decide
theorem tgt_src (s : Bool) (c : Dev nD) : tgt s (src s c) = c := by revert s c; decide

/-- The buffers and semaphores of the two directions. -/
def dir (s : Bool) : Dir :=
  bif s then ⟨Memref.whole cc0_scratch1, cc0_scratch4, cc0_scratch5, cc0_scratch7⟩
  else ⟨Memref.whole cc0_scratch0, cc0_scratch2, cc0_scratch3, cc0_scratch6⟩

abbrev barS : Sem sig := (SemArray.scalar (sig.barrier 0 rfl) : Sems sig S_).sem
abbrev barC (c : Dev nD) : GSem nD τ sig := ((c : Thread nD τ), .reg barS)
abbrev crdC (c : Dev nD) (s : Bool) : GSem nD τ sig := ((c : Thread nD τ), .reg (dir s).cr.sem)
abbrev sndC (c : Dev nD) (s : Bool) (i : Fin 5) : GSem nD τ sig := ((c : Thread nD τ), .dma (semOf (dir s).ss i).sem)
abbrev rcvC (c : Dev nD) (s : Bool) (i : Fin 5) : GSem nD τ sig := ((c : Thread nD τ), .dma (semOf (dir s).rs i).sem)

/-- The 23 semaphores of a device, by number. -/
def csem (k : Fin 23) : SemLoc sig := if h : k.val < 3 then .reg ⟨k.val, h⟩ else .dma ⟨k.val, k.isLt⟩
abbrev kcell (ck : Dev nD × Fin 23) : GSem nD τ sig := ((ck.1 : Thread nD τ), csem ck.2)

def iCrd (s : Bool) : Fin 23 := bif s then 1 else 0
def iSnd (s : Bool) (i : Fin 5) : Fin 23 := ⟨(bif s then 13 else 3) + i.val, by cases s <;> simp <;> omega⟩
def iRcv (s : Bool) (i : Fin 5) : Fin 23 := ⟨(bif s then 18 else 8) + i.val, by cases s <;> simp <;> omega⟩

theorem barC_eq (c : Dev nD) : barC c = kcell (c, 2) := rfl
theorem csem_crd (s : Bool) : csem (iCrd s) = .reg (dir s).cr.sem := by cases s <;> rfl
theorem csem_snd (s : Bool) (i : Fin 5) : csem (iSnd s i) = .dma (semOf (dir s).ss i).sem := by
  revert s i; decide
theorem csem_rcv (s : Bool) (i : Fin 5) : csem (iRcv s i) = .dma (semOf (dir s).rs i).sem := by
  revert s i; decide

/-- What a semaphore counts. -/
inductive Kind where
  | bar | crd (s : Bool) | snd (s : Bool) (i : Fin 5) | rcv (s : Bool) (i : Fin 5) | other
  deriving DecidableEq

def kindNo (k : ℕ) : Kind :=
  if k < 3 then .other
  else if (k - 3) % 10 < 5 then .snd (decide (13 ≤ k)) (sl (k - 3)) else .rcv (decide (13 ≤ k)) (sl (k - 3))

def kind : SemLoc sig → Kind
  | .reg k => if k.val = 2 then .bar else .crd (decide (k.val = 1))
  | .dma k => kindNo k.val

theorem kind_bar : kind (.reg barS) = .bar := by decide
theorem kind_crd (s : Bool) : kind (.reg (dir s).cr.sem) = .crd s := by revert s; decide
theorem kind_snd (s : Bool) (i : Fin 5) : kind (.dma (semOf (dir s).ss i).sem) = .snd s i := by revert s i; decide
theorem kind_rcv (s : Bool) (i : Fin 5) : kind (.dma (semOf (dir s).rs i).sem) = .rcv s i := by revert s i; decide

/-- The units one chunk's transfer adds to a semaphore. -/
abbrev NN : ℕ := (slotOf (dir false).buf 0).view.dmaCredit
theorem NN_pos : 0 < NN := View.dmaCredit_pos _ (by decide)
theorem credit_eq (s : Bool) (i : Fin 5) : (slotOf (dir s).buf i).view.dmaCredit = NN := by
  cases s <;> rfl

/-! ## The chunks -/

/-- The blocks of rows the devices start with. -/
abbrev Blocks : Type := Dev nD → S512x4096.Idx → Elt F .f32

theorem inbOwn (s : Bool) (q : Fin 2) : ∀ a, (![256 * s.toNat + 128 * q.val, 0] : Fin 2 → Nat) a + S128x4096.size a ≤ S512x4096.size a := by
  revert s q; decide

/-- A quarter of a block. -/
abbrev ownRect (s : Bool) (q : Fin 2) : Rect S512x4096 :=
  Rect.unit (s := S512x4096) ![256 * s.toNat + 128 * q.val, 0] S128x4096.size (inbOwn s q)

/-- Chunk `x` of direction `s` at device `c`: a quarter of the block that has come `x / 2` devices far. -/
def chunk (X : Blocks (F := F)) (s : Bool) (c : Dev nD) (x : ℕ) : S128x4096.Idx → Elt F .f32 :=
  fun i => X ((src s)^[x / 2] c) ((ownRect s (qtr x)).emb i)

omit [FloatOps F] in
/-- A chunk sent on is the next device's chunk two numbers later. -/
theorem chunk_tgt (X : Blocks (F := F)) (s : Bool) (c : Dev nD) (k : ℕ) : chunk X s (tgt s c) (k + 2) = chunk X s c k := by
  have h1 : (k + 2) / 2 = k / 2 + 1 := by omega
  have h2 : qtr (k + 2) = qtr k := Fin.ext (by simp)
  unfold chunk
  rw [h1, h2, Function.iterate_succ_apply, src_tgt]

variable (X : Blocks (F := F))

/-- Slot of chunk `x` on device `c`, holding the chunk, at share `q`. -/
def piece (q : PosShare TreeShare) (c : Dev nD) (s : Bool) (x : ℕ) : sProp 𝕄 :=
  owns (c : Thread nD τ) (slotOf (dir s).buf (sl x)) q (chunk X s c x)

omit [FloatOps F] in
instance piece_storable (q : PosShare TreeShare) (c : Dev nD) (s : Bool) (x : ℕ) :
    BI.Storable (upEmb : UEmb _ 𝕄) (piece (F := F) X q c s x) := by unfold piece; infer_instance

/-- The slot of chunk `x` on device `c`, whatever it holds. -/
def room (c : Dev nD) (s : Bool) (i : Fin 5) : sProp 𝕄 :=
  Release.slot ((slotOf (dir s).buf i).view.loc (c : Thread nD τ)) (slotOf (dir s).buf i).view.set

omit [FloatOps F] in
instance room_storable (c : Dev nD) (s : Bool) (i : Fin 5) :
    BI.Storable (upEmb : UEmb _ 𝕄) (room (F := F) c s i) := by unfold room; infer_instance

/-- The slot the grant of a key is about: the slot of chunk `k + 2` at the device the sender sends to. -/
def keySlot (x : Key) : sProp 𝕄 := room (F := F) (tgt x.2.1 x.1) x.2.1 (sl (x.2.2 + 2))

omit [FloatOps F] in
instance keySlot_storable (x : Key) : BI.Storable (upEmb : UEmb _ 𝕄) (keySlot (F := F) x) := by unfold keySlot; infer_instance

/-- Send `k` of device `c` may go: its slot at the receiver is granted, and the receiver counts the round it lands in. -/
def grant (c : Dev nD) (s : Bool) (k : ℕ) : sProp 𝕄 :=
  iprop(Release.released ES (c, s, k) 1 ∗ reached ER (rcvC (tgt s c) s (sl (k + 2))) (k / 5))

omit [FloatOps F] in
instance grant_persistent (c : Dev nD) (s : Bool) (k : ℕ) : BI.Persistent (grant (F := F) c s k) := by unfold grant; infer_instance
omit [FloatOps F] in
instance grant_storable (c : Dev nD) (s : Bool) (k : ℕ) : BI.Storable (upEmb : UEmb _ 𝕄) (grant (F := F) c s k) := by
  unfold grant; infer_instance

/-! ## The schedule -/

def duties (g : GSem nD τ sig) (r : ℕ) : Finset ℕ :=
  match kind g.2 with
  | .bar => if r = 0 then {0, 1} else ∅
  | .crd _ => if r = 0 then Finset.range 11 else ∅
  | .snd _ i => if 5 * r + i.val < 14 then {0} else ∅
  | .rcv _ i => if 5 * r + (i.val + 3) % 5 < 14 then {0} else ∅
  | .other => ∅

def amount (g : GSem nD τ sig) : ℕ :=
  match kind g.2 with
  | .snd _ _ => NN
  | .rcv _ _ => NN
  | _ => 1

def payload (g : GSem nD τ sig) (r d : ℕ) : sProp 𝕄 :=
  match kind g.2 with
  | .bar => bigSep (Finset.range 3) (grant g.1.1 (decide (d = 1)))
  | .crd s => bigSep (Finset.range (d + 4)) (grant g.1.1 s)
  | .snd s i => piece X fullShare.left g.1.1 s (5 * r + i.val)
  | .rcv s i => piece X fullShare g.1.1 s (5 * r + (i.val + 3) % 5 + 2)
  | .other => iprop(emp)

/-- The ring's schedule.  A handshake semaphore gets one unit from each neighbour, with the grants of that
    neighbour's first three slots.  A grant semaphore gets eleven units, unit `d` with all grants up to send `d + 3`.
    A send semaphore gets the sender's share of the slot back; a receive semaphore gets the slot with the chunk in it. -/
def ringRd : Rounds.Schedule (GSem nD τ sig) ℕ 𝕄 where
  duties := duties
  unitless _ := False
  amount g _ _ := amount g
  payload := payload X
  amount_pos g _ _ _ := by unfold amount; split <;> first | exact NN_pos | exact Nat.one_pos

instance ringRd_payload_storable (g : GSem nD τ sig) (r : ℕ) (d : ℕ) :
    BI.Storable (upEmb : UEmb _ 𝕄) ((ringRd (F := F) X).payload g r d) := by
  show BI.Storable upEmb (payload X g r d)
  unfold payload
  split <;> infer_instance

section Sched
variable (c : Dev nD) (s : Bool)

omit [FloatOps F] in
theorem duties_bar : (ringRd (F := F) X).duties (barC c) 0 = {0, 1} := by
  show duties (barC c) 0 = _; unfold duties; rw [kind_bar]; rfl
omit [FloatOps F] in
theorem duties_crd : (ringRd (F := F) X).duties (crdC c s) 0 = Finset.range 11 := by
  show duties _ _ = _; unfold duties; rw [kind_crd]; rfl
omit [FloatOps F] in
theorem duties_snd {k : ℕ} (hk : k < 14) : (ringRd (F := F) X).duties (sndC c s (sl k)) (k / 5) = {0} := by
  show duties _ _ = _; unfold duties; rw [kind_snd]; exact if_pos (by unfold sl; dsimp only; omega)
omit [FloatOps F] in
theorem duties_rcv {k : ℕ} (hk : k < 14) : (ringRd (F := F) X).duties (rcvC c s (sl (k + 2))) (k / 5) = {0} := by
  show duties _ _ = _; unfold duties; rw [kind_rcv]; exact if_pos (by unfold sl; dsimp only; omega)
omit [FloatOps F] in
theorem duties_bar_later : ∀ r, 1 ≤ r → (ringRd (F := F) X).duties (barC c) r = ∅ := fun r hr => by
  show duties (barC c) r = _; unfold duties; rw [kind_bar]; exact if_neg (by omega)
omit [FloatOps F] in
theorem duties_crd_later : ∀ r, 1 ≤ r → (ringRd (F := F) X).duties (crdC c s) r = ∅ := fun r hr => by
  show duties _ _ = _; unfold duties; rw [kind_crd]; exact if_neg (by omega)
omit [FloatOps F] in
theorem duties_snd_later {k : ℕ} (hk : 14 ≤ k) : ∀ r, k / 5 ≤ r → (ringRd (F := F) X).duties (sndC c s (sl k)) r = ∅ := fun r hr => by
  show duties _ _ = _; unfold duties; rw [kind_snd]; exact if_neg (by unfold sl; dsimp only; omega)
omit [FloatOps F] in
theorem duties_rcv_later {x : ℕ} (hx : 16 ≤ x) : ∀ r, (x - 2) / 5 ≤ r → (ringRd (F := F) X).duties (rcvC c s (sl x)) r = ∅ := fun r hr => by
  show duties _ _ = _; unfold duties; rw [kind_rcv]; exact if_neg (by unfold sl; dsimp only; omega)

omit [FloatOps F] in
theorem amount_bar (r d : ℕ) : (ringRd (F := F) X).amount (barC c) r d = 1 := by
  show amount (barC c) = _; unfold amount; rw [kind_bar]
omit [FloatOps F] in
theorem amount_crd (r d : ℕ) : (ringRd (F := F) X).amount (crdC c s) r d = 1 := by
  show amount _ = _; unfold amount; rw [kind_crd]
omit [FloatOps F] in
theorem amount_snd (i : Fin 5) (r d : ℕ) : (ringRd (F := F) X).amount (sndC c s i) r d = NN := by
  show amount _ = _; unfold amount; rw [kind_snd]
omit [FloatOps F] in
theorem amount_rcv (i : Fin 5) (r d : ℕ) : (ringRd (F := F) X).amount (rcvC c s i) r d = NN := by
  show amount _ = _; unfold amount; rw [kind_rcv]

omit [FloatOps F] in
theorem expect_bar : (ringRd (F := F) X).expect (barC c) 0 = 2 := by
  unfold Schedule.expect Schedule.amountOf
  rw [duties_bar, Finset.sum_congr rfl fun d _ => amount_bar X c 0 d]; rfl
omit [FloatOps F] in
theorem expect_crd : (ringRd (F := F) X).expect (crdC c s) 0 = 11 := by
  unfold Schedule.expect Schedule.amountOf
  rw [duties_crd, Finset.sum_congr rfl fun d _ => amount_crd X c s 0 d]; rfl
omit [FloatOps F] in
theorem expect_snd {k : ℕ} (hk : k < 14) : (ringRd (F := F) X).expect (sndC c s (sl k)) (k / 5) = NN := by
  unfold Schedule.expect Schedule.amountOf; rw [duties_snd X c s hk, Finset.sum_singleton, amount_snd]
omit [FloatOps F] in
theorem expect_rcv {k : ℕ} (hk : k < 14) : (ringRd (F := F) X).expect (rcvC c s (sl (k + 2))) (k / 5) = NN := by
  unfold Schedule.expect Schedule.amountOf; rw [duties_rcv X c s hk, Finset.sum_singleton, amount_rcv]

omit [FloatOps F] in
theorem payload_bar (d : ℕ) : (ringRd (F := F) X).payload (barC c) 0 d = bigSep (Finset.range 3) (grant c (decide (d = 1))) := by
  show payload X (barC c) 0 d = _; unfold payload; rw [kind_bar]
omit [FloatOps F] in
theorem payload_crd (r d : ℕ) : (ringRd (F := F) X).payload (crdC c s) r d = bigSep (Finset.range (d + 4)) (grant c s) := by
  show payload X _ _ _ = _; unfold payload; rw [kind_crd]
omit [FloatOps F] in
theorem payload_snd (k d : ℕ) : (ringRd (F := F) X).payload (sndC c s (sl k)) (k / 5) d = piece X fullShare.left c s k := by
  show payload X _ _ _ = _; unfold payload; rw [kind_snd]
  have h : 5 * (k / 5) + (sl k).val = k := by unfold sl; dsimp only; omega
  dsimp only; rw [h]
omit [FloatOps F] in
theorem payload_rcv (k d : ℕ) : (ringRd (F := F) X).payload (rcvC c s (sl (k + 2))) (k / 5) d = piece X fullShare c s (k + 2) := by
  show payload X _ _ _ = _; unfold payload; rw [kind_rcv]
  have h : 5 * (k / 5) + ((sl (k + 2)).val + 3) % 5 + 2 = k + 2 := by unfold sl; dsimp only; omega
  dsimp only; rw [h]

omit [FloatOps F] in
/-- All of a send's round: the share of the slot. -/
theorem rest_snd {k : ℕ} (hk : k < 14) :
    bigSep ((ringRd (F := F) X).duties (sndC c s (sl k)) (k / 5) \ ∅) (fun d => (ringRd (F := F) X).payload (sndC c s (sl k)) (k / 5) d)
      = piece X fullShare.left c s k := by
  rw [Finset.sdiff_empty, duties_snd X c s hk, bigSep_singleton, payload_snd]
omit [FloatOps F] in
/-- All of an arrival's round: the slot with the chunk. -/
theorem rest_rcv {k : ℕ} (hk : k < 14) :
    bigSep ((ringRd (F := F) X).duties (rcvC c s (sl (k + 2))) (k / 5) \ ∅) (fun d => (ringRd (F := F) X).payload (rcvC c s (sl (k + 2))) (k / 5) d)
      = piece X fullShare c s (k + 2) := by
  rw [Finset.sdiff_empty, duties_rcv X c s hk, bigSep_singleton, payload_rcv]
omit [FloatOps F] in
/-- All of the handshake's round: the first three grants of both directions. -/
theorem rest_bar :
    bigSep ((ringRd (F := F) X).duties (barC c) 0 \ ∅) (fun d => (ringRd (F := F) X).payload (barC c) 0 d)
      = iprop(bigSep (Finset.range 3) (grant c false) ∗ bigSep (Finset.range 3) (grant c true)) := by
  rw [Finset.sdiff_empty, duties_bar, BI.bigSep_insert (by decide), bigSep_singleton, payload_bar, payload_bar]
  rfl

end Sched

/-! ## What is owed, and the levels -/

/-- How far one direction of a device is: chunks arrived, grants consumed, chunks sent, sends completed, slots granted. -/
structure Cnt where
  nr : ℕ
  nc : ℕ
  ns : ℕ
  nw : ℕ
  ng : ℕ

/-- What device `c` still owes in direction `s`: its remaining sends and its remaining grants. -/
def dues (c : Dev nD) (s : Bool) (ns ng : ℕ) : CellTallies nD τ sig ℕ :=
  (∑ k ∈ Finset.Ico ns 14, tallyAt (rcvC (tgt s c) s (sl (k + 2))) (k + 2) NN)
    + ∑ d ∈ Finset.Ico ng 11, tallyAt (crdC (src s c) s) (d + 4) 1

def L (g : GSem nD τ sig) : Finset ℕ := if g.1.2 = .tc then Finset.range 64 else ∅
/-- A payment's level is its index. -/
def lv (_ : GSem nD τ sig) (u : ℕ) : ℕ := u

theorem L_of_ne (g : GSem nD τ sig) (h : g.1.2 ≠ .tc) : L g = ∅ := if_neg h
theorem L_tc (c : Dev nD) (sm : SemLoc sig) : L ((c : Thread nD τ), sm) = Finset.range 64 := if_pos rfl

/-- Everything in `O` is owed to a core, at a level above `n`. -/
def Above (n : ℕ) (O : CellTallies nD τ sig ℕ) : Prop := ∀ g u, 0 < O g u → g.1.2 = .tc ∧ n < u ∧ u < 64

theorem above_zero (n : ℕ) : Above n 0 := fun g u h => absurd h (Nat.lt_irrefl 0)

theorem above_add {n : ℕ} {O O' : CellTallies nD τ sig ℕ} (h : Above n O) (h' : Above n O') : Above n (O + O') := fun g u hg => by
  rw [Pi.add_apply, Finsupp.add_apply] at hg
  rcases Nat.pos_of_ne_zero (n := O g u) |> fun f => (Nat.eq_zero_or_pos (O g u)) with h0 | h0
  · exact h' g u (by omega)
  · exact h g u h0

theorem above_tally {n : ℕ} (c : Dev nD) (sm : SemLoc sig) {u k : ℕ} (hn : n < u) (hu : u < 64) :
    Above n (tallyAt ((c : Thread nD τ), sm) u k) := fun g v hg => by
  rw [tallyAt_apply] at hg
  by_cases h : g = ((c : Thread nD τ), sm) ∧ v = u
  · obtain ⟨rfl, rfl⟩ := h; exact ⟨rfl, hn, hu⟩
  · rw [if_neg h] at hg; exact absurd hg (Nat.lt_irrefl 0)

theorem above_sum {n : ℕ} {I : Finset ℕ} {f : ℕ → CellTallies nD τ sig ℕ} (h : ∀ i ∈ I, Above n (f i)) : Above n (∑ i ∈ I, f i) := by
  classical
  induction I using Finset.induction_on with
  | empty => exact above_zero n
  | insert a I ha ih =>
    rw [Finset.sum_insert ha]
    exact above_add (h a (Finset.mem_insert_self _ _)) (ih fun i hi => h i (Finset.mem_insert_of_mem hi))

theorem above_dues (c : Dev nD) (s : Bool) {n ns ng : ℕ} (h1 : ns < 14 → n < ns + 2) (h2 : ng < 11 → n < ng + 4) :
    Above n (dues c s ns ng) :=
  above_add
    (above_sum fun k hk => by rw [Finset.mem_Ico] at hk; exact above_tally _ _ (by omega) (by omega))
    (above_sum fun d hd => by rw [Finset.mem_Ico] at hd; exact above_tally _ _ (by omega) (by omega))

omit [FloatOps F] in
/-- A device may wait at level `n` while everything it owes is above. -/
theorem mayWait (c : Dev nD) (sm : SemLoc sig) {n : ℕ} (hn : n < 64) {O : CellTallies nD τ sig ℕ} (hO : Above n O) :
    (levAts L lv : sProp 𝕄) ⊢ MayWait (c : Thread nD τ) sm n O :=
  MayOwe.of_cut (L := L) (lev := lv) n
    (fun p hp => by rw [Finset.mem_singleton.mp hp, L_tc]; exact Finset.mem_range.2 hn)
    (fun g u hg => by unfold L; rw [if_pos (hO g u hg).1]; exact Finset.mem_range.2 (hO g u hg).2.2)
    (fun p hp => by rw [Finset.mem_singleton.mp hp]; exact le_rfl)
    (fun g u hg => (hO g u hg).2.1)

theorem Ico_bot {a b : ℕ} (h : a < b) : Finset.Ico a b = insert a (Finset.Ico (a + 1) b) := by
  ext i; simp only [Finset.mem_insert, Finset.mem_Ico]; omega
theorem Ico_top {a b : ℕ} (h : a ≤ b) : Finset.Ico a (b + 1) = insert b (Finset.Ico a b) := by
  ext i; simp only [Finset.mem_insert, Finset.mem_Ico]; omega

theorem dues_send (c : Dev nD) (s : Bool) {ns : ℕ} (ng : ℕ) (h : ns < 14) :
    dues c s ns ng = dues c s (ns + 1) ng + tallyAt (rcvC (tgt s c) s (sl (ns + 2))) (ns + 2) NN := by
  unfold dues; rw [Ico_bot h, Finset.sum_insert (by simp), add_assoc, add_comm]
theorem dues_grant (c : Dev nD) (s : Bool) (ns : ℕ) {ng : ℕ} (h : ng < 11) :
    dues c s ns ng = dues c s ns (ng + 1) + tallyAt (crdC (src s c) s) (ng + 4) 1 := by
  unfold dues; rw [Ico_bot h, Finset.sum_insert (by simp), add_assoc]; exact congrArg _ (add_comm _ _)
theorem dues_end (c : Dev nD) (s : Bool) : dues c s 14 11 = 0 := by
  unfold dues; rw [Finset.Ico_self, Finset.Ico_self, Finset.sum_empty, Finset.sum_empty, add_zero]

end Cert.KernelIdeal.Ring
-- ==== Proof.KernelIdeal.Stream.lean ====
/-
What a device holds of one direction of the ring, and how the operations of a step change it.
-/
module

public import proofs.«01_k».proof.Proof.KernelIdeal.Proto
public import Idealize.ShloMosaic.Lib.MemrefSat
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-! ## Programs from a state to a state -/

/-- Run before any continuation, `p` takes `P` to `Q` on device `c`. -/
def Tri (c : Dev nD) (p : K (F := F)) (P Q : sProp 𝕄) : Prop :=
  ∀ (k : PUnit → K (F := F)) (Kt : PUnit → sProp 𝕄),
    P ⊢ iprop((Q -∗ wp frame (wpE (defs₀ (F := F)) 𝒱₀ (c : Thread nD τ) none) Set.univ (k ⟨⟩) Kt)
      -∗ wp frame (wpE (defs₀ (F := F)) 𝒱₀ (c : Thread nD τ) none) Set.univ (p >>= k) Kt)

namespace Tri
variable {c : Dev nD} {p q : K (F := F)} {P P' Q Q' R : sProp (MT nD τ sig ℕ (Elt F) ℕ UU ℕ)}

theorem skip (h : P ⊢ Q) : Tri c (pure ⟨⟩) P Q := by
  intro k Kt
  iintro HP Hk
  rw [pure_bind]
  iapply Hk; iapply h; iexact HP

theorem seq (hp : Tri c p P Q) (hq : Tri c q Q R) : Tri c (do p; q) P R := by
  intro k Kt
  rw [bind_assoc]
  iintro HP Hk
  iapply (hp _ Kt) $$ HP
  iintro HQ
  iapply (hq k Kt) $$ HQ
  iexact Hk

theorem conseq (h : P ⊢ P') (hp : Tri c p P' Q') (h' : Q' ⊢ Q) : Tri c p P Q := by
  intro k Kt
  iintro HP Hk
  iapply (hp k Kt) $$ [HP]
  · iapply h; iexact HP
  iintro HQ
  iapply Hk; iapply h'; iexact HQ

theorem frame (hp : Tri c p P Q) (R : sProp 𝕄) : Tri c p iprop(P ∗ R) iprop(Q ∗ R) := by
  intro k Kt
  iintro ⟨HP, HR⟩ Hk
  iapply (hp k Kt) $$ HP
  iintro HQ
  iapply Hk
  isplitl [HQ] <;> iassumption

theorem only {b : Bool} (ht : b = true → Tri c p P Q) (hf : b = false → P ⊢ Q) : Tri c (only b p) P Q := by
  cases b with
  | true => exact ht rfl
  | false => exact skip (hf rfl)

end Tri

variable (X : Blocks (F := F)) (κ : Dev nD × Fin 23 → ℕ) (ιs : Key → ℕ)

/-- All the keys of the slots. -/
def keys : Finset Key := Finset.univ ×ˢ Finset.univ ×ˢ Finset.range 14
omit [FloatOps F] in
theorem mem_keys (c : Dev nD) (s : Bool) {k : ℕ} (hk : k < 14) : ((c, s, k) : Key) ∈ keys := by
  unfold keys; simp [hk]

/-- The invariants all devices share, and the levels. -/
def Ctx : sProp 𝕄 :=
  iprop(bigSep Finset.univ (fun ck : Dev nD × Fin 23 => cellInv ER (ringRd X) (κ ck) (kcell ck))
    ∗ bigSep keys (fun x => Release.slotInv ES (ιs x) x (keySlot (F := F) x)) ∗ levAts L lv)

instance : BI.Persistent (Ctx (F := F) X κ ιs) := by unfold Ctx; infer_instance

theorem ctx_cell (ck : Dev nD × Fin 23) : Ctx (F := F) X κ ιs ⊢ cellInv ER (ringRd X) (κ ck) (kcell ck) := by
  unfold Ctx; exact sep_elim_left.trans (bigSep_elim (Φ := fun ck => (cellInv ER (ringRd X) (κ ck) (kcell ck) : sProp 𝕄)) (Finset.mem_univ ck))
theorem ctx_crd (c : Dev nD) (s : Bool) : Ctx (F := F) X κ ιs ⊢ cellInv ER (ringRd X) (κ (c, iCrd s)) (crdC c s) := by
  have h := ctx_cell X κ ιs (c, iCrd s); unfold kcell at h; rw [csem_crd] at h; exact h
theorem ctx_snd (c : Dev nD) (s : Bool) (i : Fin 5) : Ctx (F := F) X κ ιs ⊢ cellInv ER (ringRd X) (κ (c, iSnd s i)) (sndC c s i) := by
  have h := ctx_cell X κ ιs (c, iSnd s i); unfold kcell at h; rw [csem_snd] at h; exact h
theorem ctx_rcv (c : Dev nD) (s : Bool) (i : Fin 5) : Ctx (F := F) X κ ιs ⊢ cellInv ER (ringRd X) (κ (c, iRcv s i)) (rcvC c s i) := by
  have h := ctx_cell X κ ιs (c, iRcv s i); unfold kcell at h; rw [csem_rcv] at h; exact h
theorem ctx_slot {x : Key} (hx : x ∈ keys) : Ctx (F := F) X κ ιs ⊢ Release.slotInv ES (ιs x) x (keySlot (F := F) x) := by
  unfold Ctx; exact sep_elim_right.trans (sep_elim_left.trans (bigSep_elim (Φ := fun x => (Release.slotInv ES (ιs x) x (keySlot (F := F) x) : sProp 𝕄)) hx))
theorem ctx_lev : Ctx (F := F) X κ ιs ⊢ levAts L lv := by unfold Ctx; iintro ⟨-, -, H⟩; iexact H

/-- The device owes `O`. -/
def ow (c : Dev nD) (O : CellTallies nD τ sig ℕ) : sProp 𝕄 := iprop(∃ W, owes (c : Thread nD τ) O W)

/-! ## Halves of a slot -/

omit [FloatOps F] in
theorem piece_split (c : Dev nD) (s : Bool) (x : ℕ) :
    piece X fullShare c s x ⊢ iprop(piece X fullShare.left c s x ∗ piece X fullShare.right c s x) := by
  unfold piece; exact (owns_halves _ _ _ _).1

omit [FloatOps F] in
theorem piece_join (c : Dev nD) (s : Bool) (x : ℕ) :
    iprop(piece X fullShare.left c s x ∗ piece X fullShare.right c s x) ⊢ piece X fullShare c s x := by
  unfold piece; exact (owns_halves _ _ _ _).2

omit [FloatOps F] in
theorem piece_room (c : Dev nD) (s : Bool) (x : ℕ) : piece X fullShare c s x ⊢ room (F := F) c s (sl x) := by
  unfold piece owns room Release.slot
  iintro ⟨%f, -, H⟩
  iexists f; iexact H

/-! ## Runs of resources -/

section Runs
variable {Φ : ℕ → sProp (MT nD τ sig ℕ (Elt F) ℕ UU ℕ)} {a b : ℕ}

omit [FloatOps F] in
theorem run_take (h : a < b) : bigSep (Finset.Ico a b) Φ ⊢ iprop(Φ a ∗ bigSep (Finset.Ico (a + 1) b) Φ) :=
  Entails.of_eq (bigSep_Ico_succ_bot h Φ)
omit [FloatOps F] in
theorem run_put (h : a ≤ b) : iprop(Φ b ∗ bigSep (Finset.Ico a b) Φ) ⊢ bigSep (Finset.Ico a (b + 1)) Φ := by
  rw [Ico_top h, BI.bigSep_insert (by simp)]; exact BI.Entails.refl _
omit [FloatOps F] in
theorem run_turn : iprop(Φ (a + 5) ∗ bigSep (Finset.Ico (a + 1) (a + 5)) Φ) ⊢ bigSep (Finset.Ico (a + 1) (a + 1 + 5)) Φ := by
  rw [show a + 1 + 5 = a + 5 + 1 by omega]; exact run_put (by omega)
omit [FloatOps F] in
/-- One resource of a run, the run kept aside. -/
theorem run_at {x : ℕ} (h : a ≤ x) (h' : x < b) :
    bigSep (Finset.Ico a b) Φ ⊢ iprop(Φ x ∗ (Φ x -∗ bigSep (Finset.Ico a b) Φ)) := by
  rw [show bigSep (Finset.Ico a b) Φ = iprop(Φ x ∗ bigSep ((Finset.Ico a b).erase x) Φ) from bigSep_erase (Finset.mem_Ico.2 ⟨h, h'⟩)]
  iintro ⟨H, Hr⟩
  isplitl [H]; · iexact H
  iintro H; isplitl [H] <;> iassumption
end Runs

/-! ## What a device holds of one direction -/

section Res
variable (c : Dev nD) (s : Bool)

/-- The device's place in the arrivals of the slot of chunk `x`, before chunk `x` arrives. -/
def posR (x : ℕ) : sProp 𝕄 :=
  iprop(atPos ER (rcvC c s (sl x)) ((x - 2) / 5) ∅ 0 ∗ reached ER (rcvC c s (sl x)) ((x - 2) / 5))
/-- The device's place in the sends of the slot of chunk `x`, before chunk `x` has left. -/
def posS (x : ℕ) : sProp 𝕄 :=
  iprop(atPos ER (sndC c s (sl x)) (x / 5) ∅ 0 ∗ reached ER (sndC c s (sl x)) (x / 5))
/-- The right to make send `k`. -/
def sendTok (k : ℕ) : sProp 𝕄 :=
  iprop(dutyTok ER (sndC c s (sl k)) (k / 5) 0 ∗ dutyTok ER (rcvC (tgt s c) s (sl (k + 2))) (k / 5) 0 ∗ Release.writeTok ES (c, s, k) 1)
/-- The right to make grant `d`, which is about send `d + 3` of the device before. -/
def grantTok (d : ℕ) : sProp 𝕄 :=
  iprop(dutyTok ER (crdC (src s c) s) 0 d ∗ Release.readerAt ES (src s c, s, d + 3) 0 ∗ reached ER (crdC (src s c) s) 0)
def recvCred (x : ℕ) : sProp 𝕄 := cred (tallyAt (rcvC c s (sl x)) x NN)
def crdCred (n : ℕ) : sProp 𝕄 := cred (tallyAt (crdC c s) (n + 4) 1)
def sndCred (k : ℕ) : sProp 𝕄 := cred (tallyAt (sndC c s (sl k)) 0 NN)
/-- The grant semaphore after `nc` waits: the grants heard of. -/
def crdSt (nc : ℕ) : sProp 𝕄 :=
  iprop(∃ T : Finset ℕ, ⌜T ⊆ Finset.range 11 ∧ nc + (Finset.range 11 \ T).card ≤ 11⌝ ∗ atPos ER (crdC c s) 0 T nc
    ∗ bigSep T (fun d => bigSep (Finset.range (d + 4)) (grant (F := F) c s)))

/-- The stream of one direction: `nr` chunks are here, `nc` grants consumed, `ns` chunks sent, `nw` of them gone,
    `ng` slots granted. -/
def Str (nr nc ns nw ng : ℕ) : sProp 𝕄 :=
  iprop(bigSep (Finset.Ico ns nr) (piece X fullShare c s)
    ∗ bigSep (Finset.Ico nw ns) (piece X fullShare.right c s)
    ∗ bigSep (Finset.Ico ng nw) (piece X fullShare c s)
    ∗ bigSep (Finset.Ico nr (nr + 5)) (posR c s)
    ∗ bigSep (Finset.Ico nw (nw + 5)) (posS c s)
    ∗ crdSt c s nc
    ∗ bigSep (Finset.Ico 0 (nc + 3)) (grant c s)
    ∗ bigSep (Finset.Ico 0 (ng + 3)) (grant (src s c) s)
    ∗ bigSep (Finset.Ico ns 14) (sendTok c s)
    ∗ bigSep (Finset.Ico ng 11) (grantTok c s)
    ∗ bigSep (Finset.Ico nr 16) (recvCred c s)
    ∗ bigSep (Finset.Ico nc 11) (crdCred c s)
    ∗ bigSep (Finset.Ico nw ns) (sndCred c s))

end Res

theorem sl_add5 (x : ℕ) : sl (x + 5) = sl x := by unfold sl; simp

variable {X κ ιs} (c : Dev nD) (s : Bool) {nr nc ns nw ng : ℕ} (O₂ : CellTallies nD τ sig ℕ)

/-- The next chunk arrives. -/
theorem recv_step (h2 : 2 ≤ nr) (h16 : nr < 16) (hns : ns ≤ nr) (hA : Above nr (dues c s ns ng + O₂)) :
    Tri c (recvWait (F := F) (dir s) nr)
      iprop(Ctx X κ ιs ∗ Str X c s nr nc ns nw ng ∗ ow c (dues c s ns ng + O₂))
      iprop(Ctx X κ ιs ∗ Str X c s (nr + 1) nc ns nw ng ∗ ow c (dues c s ns ng + O₂)) := by
  obtain ⟨j, rfl⟩ : ∃ j, nr = j + 2 := ⟨nr - 2, by omega⟩
  intro k Kt
  unfold recvWait
  simp only [Prog.lift, Prog.bind_op, Prog.bind_ret]
  unfold Str ow
  iintro ⟨#HC, ⟨H1, H2, H3, H4, H5, H6, H7, H8, H9, H10, H11, H12, H13⟩, ⟨%W, HO⟩⟩ Hk
  ihave ⟨Hp, H4⟩ := (run_take (Φ := posR c s) (show j + 2 < j + 2 + 5 by omega)) $$ H4
  ihave ⟨Hc, H11⟩ := (run_take (Φ := recvCred c s) h16) $$ H11
  unfold posR recvCred
  icases Hp with ⟨Hat, -⟩
  iapply (Rounds.wp_wait_rest_token 𝒱₀ ER (ringRd X) (c : Thread nD τ) none (κ := κ (c, iRcv s (sl (j + 2))))
      (wpE_waitDma2_eq 𝒱₀ (c : Thread nD τ) none Set.univ) (Set.mem_univ _) (j + 2) (O := dues c s ns ng + O₂) (W := W) (R := j / 5) (m := 0) (T := ∅)
      (by rw [Nat.zero_add, credit_eq, expect_rcv X c s (by omega)])) $$ [Hc HO Hat]
  · isplitr; · iapply (ctx_rcv X κ ιs c s (sl (j + 2))); iexact HC
    isplitl [Hc]; · rw [credit_eq]; iexact Hc
    isplitl [HO]; · iexact HO
    isplitr; · iapply (mayWait c _ (by omega) hA); iapply (ctx_lev X κ ιs); iexact HC
    iexact Hat
  rw [rest_rcv X c s (by omega)]
  iintro ⟨HO, Hat, #Hr, Hpay⟩
  iapply Hk
  isplitr; · iexact HC
  isplitr [HO]
  · isplitl [H1 Hpay]; · iapply (run_put hns); isplitl [Hpay] <;> iassumption
    isplitl [H2]; · iexact H2
    isplitl [H3]; · iexact H3
    isplitl [H4 Hat]
    · iapply (run_turn (Φ := posR c s)); unfold posR
      rw [sl_add5, show (j + 2 + 5 - 2) / 5 = j / 5 + 1 by omega]
      isplitl [Hat]; · isplitl [Hat]; · iexact Hat
                       iexact Hr
      iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12] <;> iassumption
  iexists _; iexact HO

end Cert.KernelIdeal.Ring
-- ==== Proof.KernelIdeal.Moves.lean ====
/-
The waits for grants, the sends, the waits for sends and the grants of one direction.
-/
module

public import proofs.«01_k».proof.Proof.KernelIdeal.Stream

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {X : Blocks (F := F)} {κ : Dev nD × Fin 23 → ℕ} {ιs : Key → ℕ} (c : Dev nD) (s : Bool) {nr nc ns nw ng : ℕ} (O₂ : CellTallies nD τ sig ℕ)

/-- Of the units of a grant semaphore counted so far, one has a high number. -/
theorem high_unit {S : Finset ℕ} {n : ℕ} (hS : S ⊆ Finset.range 11) (hc : n + (Finset.range 11 \ S).card ≤ 11) (hn : 0 < n) :
    ∃ d ∈ S, n ≤ d + 1 := by
  by_contra h
  have h1 : S ⊆ Finset.range (n - 1) := fun d hd => Finset.mem_range.2 (by
    by_contra h2; exact h ⟨d, hd, by omega⟩)
  have h2 := Finset.card_le_card h1
  have h3 := Finset.card_sdiff_add_card_eq_card hS
  rw [Finset.card_range] at h2 h3
  omega

theorem heard_at {Φ : ℕ → sProp 𝕄} {S : Finset ℕ} {d : ℕ} (h : d ∈ S) : bigSep S Φ ⊢ Φ d := bigSep_elim h

/-- What is heard of in two parts is heard of in one. -/
theorem heard_more {Φ : ℕ → sProp 𝕄} {S T : Finset ℕ} (h : T ⊆ S) :
    iprop(bigSep T Φ ∗ bigSep (S \ T) Φ) ⊢ bigSep S Φ := by
  conv => rhs; rw [← Finset.union_sdiff_of_subset h]
  exact Entails.of_eq (BI.bigSep_union Finset.disjoint_sdiff).symm

/-- The next grant is consumed: one more send is allowed. -/
theorem credit_step (h11 : nc < 11) (hA : Above (nc + 4) (dues c s ns ng + O₂)) :
    Tri c (semWaitWord (dir s).cr.sem 1#32 : K (F := F))
      iprop(Ctx X κ ιs ∗ Str X c s nr nc ns nw ng ∗ ow c (dues c s ns ng + O₂))
      iprop(Ctx X κ ιs ∗ Str X c s nr (nc + 1) ns nw ng ∗ ow c (dues c s ns ng + O₂)) := by
  intro k Kt
  simp only [semWaitWord, Prog.lift, Prog.bind_op, Prog.bind_ret]
  unfold Str ow crdSt
  iintro ⟨#HC, ⟨H1, H2, H3, H4, H5, ⟨%T, %hT, Hat, #Hpay⟩, H7, H8, H9, H10, H11, H12, H13⟩, ⟨%W, HO⟩⟩ Hk
  ihave ⟨Hc, H12⟩ := (run_take (Φ := crdCred c s) h11) $$ H12
  unfold crdCred
  iapply (Rounds.wp_wait 𝒱₀ ER (ringRd X) (c : Thread nD τ) none (κ := κ (c, iCrd s))
      (wpE_semWait_eq 𝒱₀ (c : Thread nD τ) none Set.univ) (Set.mem_univ _) (cr := Finsupp.single (nc + 4) 1) (O := dues c s ns ng + O₂) (W := W)
      {(SemLoc.reg (dir s).cr.sem, nc + 4)} (R := 0) (m := nc) (T := T) (by rw [Util.total_single]; rfl)
      (image_single_subset _ (nc + 4) 1)) $$ [Hc HO Hat]
  · isplitr; · iapply (ctx_crd X κ ιs c s); iexact HC
    isplitl [Hc]; · iexact Hc
    isplitl [HO]; · iexact HO
    isplitr; · iapply (mayWait c _ (by omega) hA); iapply (ctx_lev X κ ιs); iexact HC
    iexact Hat
  iintro %S ⟨%hS, HO, Hat, Hnew⟩
  ihave #Hnew := (Entails.of_eq (bigSep_congr fun d _ => payload_crd X c s 0 d)) $$ Hnew
  have hS11 : S ⊆ Finset.range 11 := by have h := hS.2.1; rw [show (ringRd X).duties (c.tc, SemLoc.reg (dir s).cr.sem) 0 = _ from duties_crd X c s] at h; exact h
  have hcard : nc + 1 + (Finset.range 11 \ S).card ≤ 11 := by
    have h := hS.2.2
    rw [show (ringRd X).duties (c.tc, SemLoc.reg (dir s).cr.sem) 0 = _ from duties_crd X c s,
      show (ringRd X).expect (c.tc, SemLoc.reg (dir s).cr.sem) 0 = _ from expect_crd X c s] at h
    exact h
  ihave #Hall := (heard_more (Φ := fun d => bigSep (Finset.range (d + 4)) (grant (F := F) c s)) hS.1) $$ [Hpay Hnew]
  · isplitr <;> iassumption
  obtain ⟨d, hd, hnd⟩ := high_unit hS11 hcard (by omega)
  ihave #Hd := (heard_at (Φ := fun d => bigSep (Finset.range (d + 4)) (grant (F := F) c s)) hd) $$ Hall
  ihave #Hg := (heard_at (Φ := grant (F := F) c s) (Finset.mem_range.2 (show nc + 3 < d + 4 by omega))) $$ Hd
  iapply Hk
  isplitr; · iexact HC
  isplitr [HO]
  · isplitl [H1]; · iexact H1
    isplitl [H2]; · iexact H2
    isplitl [H3]; · iexact H3
    isplitl [H4]; · iexact H4
    isplitl [H5]; · iexact H5
    isplitl [Hat]
    · iexists S
      isplitr; · ipureintro; exact ⟨hS11, hcard⟩
      isplitl [Hat]; · iexact Hat
      iexact Hall
    isplitl [H7]
    · rw [show nc + 1 + 3 = nc + 3 + 1 by omega]
      iapply (run_put (Φ := grant c s) (Nat.zero_le _)); isplitr; · iexact Hg
      iexact H7
    isplitl [H8]; · iexact H8
    isplitl [H9]; · iexact H9
    isplitl [H10]; · iexact H10
    isplitl [H11]; · iexact H11
    isplitl [H12] <;> iassumption
  iexists _; iexact HO

omit [FloatOps F] in
/-- A chunk copied into the next slot of the device ahead is that device's chunk two numbers later. -/
theorem landed (k : ℕ) {fs : (slotOf (dir s).buf (sl k)).view.ty.Contents (Elt F)} (hfs : (slotOf (dir s).buf (sl k)).view.read (Elt F) fs = chunk X s c k)
    (fd : (slotOf (dir s).buf (sl (k + 2))).view.ty.Contents (Elt F)) :
    ((slotOf (dir s).buf (sl (k + 2))).view.loc (tgt s c : Thread nD τ) ↦[(slotOf (dir s).buf (sl (k + 2))).view.set]{fullShare}
        ((slotOf (dir s).buf (sl (k + 2))).view.write (Elt F) fd ((slotOf (dir s).buf (sl k)).view.read (Elt F) fs) Finset.univ) : sProp 𝕄)
      ⊢ piece X fullShare (tgt s c) s (k + 2) := by
  unfold piece owns
  iintro H
  iexists ((slotOf (dir s).buf (sl (k + 2))).view.write (Elt F) fd ((slotOf (dir s).buf (sl k)).view.read (Elt F) fs) Finset.univ)
  isplitr; · (ipureintro; rw [View.read_write_univ, hfs, chunk_tgt])
  iexact H

/-- Chunk `ns` is sent on, into the slot the device ahead granted. -/
theorem send_step (h14 : ns < 14) (hr : ns < nr) (hg : ns < nc + 3) (hw : nw ≤ ns) (hw5 : ns < nw + 5) :
    Tri c (send (F := F) (dir s) (tgt s c) ns)
      iprop(Ctx X κ ιs ∗ Str X c s nr nc ns nw ng ∗ ow c (dues c s ns ng + O₂))
      iprop(Ctx X κ ιs ∗ Str X c s nr nc (ns + 1) nw ng ∗ ow c (dues c s (ns + 1) ng + O₂)) := by
  intro k Kt
  unfold send
  simp only [Prog.lift, Prog.bind_op, Prog.bind_ret]
  unfold Str ow
  iintro ⟨#HC, ⟨H1, H2, H3, H4, H5, H6, #H7, H8, H9, H10, H11, H12, H13⟩, ⟨%W, HO⟩⟩ Hk
  ihave ⟨Hp, H1⟩ := (run_take (Φ := piece X fullShare c s) hr) $$ H1
  ihave ⟨Hl, Hh⟩ := (piece_split X c s ns) $$ Hp
  ihave ⟨Htok, H9⟩ := (run_take (Φ := sendTok c s) h14) $$ H9
  ihave ⟨Hs, H5⟩ := (run_at (Φ := posS c s) hw hw5) $$ H5
  ihave #Hg := (heard_at (Φ := grant (F := F) c s) (Finset.mem_Ico.2 ⟨Nat.zero_le _, hg⟩)) $$ H7
  unfold sendTok posS grant
  icases Htok with ⟨Ht1, Ht2, Hwt⟩
  icases Hs with ⟨Hs, #Hrs⟩
  icases Hg with ⟨#Hrel, #Hrr⟩
  ihave H5 := H5 $$ [Hs]
  · isplitl [Hs]; · iexact Hs
    iexact Hrs
  imod (Release.slot_take ES (Set.mem_univ (ιs (c, s, ns))) 1) $$ [Hwt] with Hroom
  · isplitr; · iapply (ctx_slot X κ ιs (mem_keys c s h14)); iexact HC
    isplitr; · iexact Hrel
    iexact Hwt
  ihave Hroom := (show keySlot (F := F) (c, s, ns) ⊢ room (F := F) (tgt s c) s (sl (ns + 2)) from BI.Entails.refl _) $$ Hroom
  unfold room Release.slot piece owns
  icases Hroom with ⟨%fd, Hd⟩
  icases Hl with ⟨%fs, %hfs, Hl⟩
  iapply (Rounds.wp_send_pointsTo 𝒱₀ ER (ringRd X) (c : Thread nD τ) none (κ₁ := κ (c, iSnd s (sl ns))) (κ₂ := κ (tgt s c, iRcv s (sl (ns + 2))))
    (src := slotOf (dir s).buf (sl ns)) (dst := slotOf (dir s).buf (sl (ns + 2))) (c' := (tgt s c : Thread nD τ))
    (sS := .dma (semOf (dir s).ss (sl ns)).sem) (sem := .dma (semOf (dir s).rs (sl (ns + 2))).sem)
    (r₁ := ns / 5) (r₂ := ns / 5) (d₁ := 0) (d₂ := 0) (fd := fd) (fs := fs) (q := fullShare.left)
    (by rw [duties_snd X c s h14]; exact Finset.mem_singleton_self _) (by rw [duties_rcv X (tgt s c) s h14]; exact Finset.mem_singleton_self _)
    (ns + 2) 0 NN (credit_eq s (sl (ns + 2))) (amount_snd X c s (sl ns) (ns / 5) 0) (amount_rcv X (tgt s c) s (sl (ns + 2)) (ns / 5) 0)
    (O₀ := dues c s ns ng + O₂) (dues c s (ns + 1) ng + O₂) (by rw [dues_send c s ng h14, add_right_comm]) (W := W)
    (by rw [payload_snd]; unfold piece owns; iintro H; iexists fs; isplitr; · (ipureintro; exact hfs)
        iexact H)
    (by rw [payload_rcv]; exact landed c s ns hfs fd)) $$ [Hl Hd HO Ht1 Ht2]
  · isplitr; · iapply (ctx_snd X κ ιs c s (sl ns)); iexact HC
    isplitr; · iapply (ctx_rcv X κ ιs (tgt s c) s (sl (ns + 2))); iexact HC
    isplitl [Hl]; · iexact Hl
    isplitl [Hd]; · iexact Hd
    isplitl [HO]; · iexact HO
    isplitl [Ht1]; · iexact Ht1
    isplitr; · iexact Hrs
    isplitl [Ht2]; · iexact Ht2
    iexact Hrr
  iintro ⟨Hcs, HO⟩
  iapply Hk
  isplitr; · iexact HC
  isplitr [HO]
  · isplitl [H1]; · iexact H1
    isplitl [H2 Hh]; · iapply (run_put hw); isplitl [Hh] <;> iassumption
    isplitl [H3]; · iexact H3
    isplitl [H4]; · iexact H4
    isplitl [H5]; · iexact H5
    isplitl [H6]; · iexact H6
    isplitr; · iexact H7
    isplitl [H8]; · iexact H8
    isplitl [H9]; · iexact H9
    isplitl [H10]; · iexact H10
    isplitl [H11]; · iexact H11
    isplitl [H12]; · iexact H12
    iapply (run_put (Φ := sndCred c s) hw); isplitl [Hcs]; · unfold sndCred; iexact Hcs
    iexact H13
  iexists _; iexact HO

/-- The oldest send under way has left: its slot is whole again. -/
theorem sent_step (h14 : nw < ns) (hns : ns ≤ 14) (hgw : ng ≤ nw) (hA : Above 0 (dues c s ns ng + O₂)) :
    Tri c (sendWait (F := F) (dir s) (nw + 2))
      iprop(Ctx X κ ιs ∗ Str X c s nr nc ns nw ng ∗ ow c (dues c s ns ng + O₂))
      iprop(Ctx X κ ιs ∗ Str X c s nr nc ns (nw + 1) ng ∗ ow c (dues c s ns ng + O₂)) := by
  intro k Kt
  unfold sendWait
  simp only [Prog.lift, Prog.bind_op, Prog.bind_ret]
  have hsl : sl (nw + 2 + 3) = sl nw := sl_add5 nw
  simp only [hsl]
  unfold Str ow
  iintro ⟨#HC, ⟨H1, H2, H3, H4, H5, H6, H7, H8, H9, H10, H11, H12, H13⟩, ⟨%W, HO⟩⟩ Hk
  ihave ⟨Hp, H5⟩ := (run_take (Φ := posS c s) (show nw < nw + 5 by omega)) $$ H5
  ihave ⟨Hc, H13⟩ := (run_take (Φ := sndCred c s) h14) $$ H13
  ihave ⟨Hh, H2⟩ := (run_take (Φ := piece X fullShare.right c s) h14) $$ H2
  unfold posS sndCred
  icases Hp with ⟨Hat, -⟩
  iapply (Rounds.wp_wait_rest_token 𝒱₀ ER (ringRd X) (c : Thread nD τ) none (κ := κ (c, iSnd s (sl nw)))
      (wpE_waitDma2_eq 𝒱₀ (c : Thread nD τ) none Set.univ) (Set.mem_univ _) 0 (O := dues c s ns ng + O₂) (W := W) (R := nw / 5) (m := 0) (T := ∅)
      (by rw [Nat.zero_add, credit_eq, expect_snd X c s (by omega)])) $$ [Hc HO Hat]
  · isplitr; · iapply (ctx_snd X κ ιs c s (sl nw)); iexact HC
    isplitl [Hc]; · rw [credit_eq]; iexact Hc
    isplitl [HO]; · iexact HO
    isplitr; · iapply (mayWait c _ (by omega) hA); iapply (ctx_lev X κ ιs); iexact HC
    iexact Hat
  rw [rest_snd X c s (by omega)]
  iintro ⟨HO, Hat, #Hr, Hl⟩
  iapply Hk
  isplitr; · iexact HC
  isplitr [HO]
  · isplitl [H1]; · iexact H1
    isplitl [H2]; · iexact H2
    isplitl [H3 Hl Hh]
    · iapply (run_put (Φ := piece X fullShare c s) hgw); isplitl [Hl Hh]
      · iapply (piece_join X c s nw); isplitl [Hl] <;> iassumption
      · iexact H3
    isplitl [H4]; · iexact H4
    isplitl [H5 Hat]
    · iapply (run_turn (Φ := posS c s)); unfold posS
      rw [sl_add5, show (nw + 5) / 5 = nw / 5 + 1 by omega]
      isplitl [Hat]; · isplitl [Hat]; · iexact Hat
                       iexact Hr
      iexact H5
    isplitl [H6]; · iexact H6
    isplitl [H7]; · iexact H7
    isplitl [H8]; · iexact H8
    isplitl [H9]; · iexact H9
    isplitl [H10]; · iexact H10
    isplitl [H11]; · iexact H11
    isplitl [H12] <;> iassumption
  iexists _; iexact HO

omit [FloatOps F] in
theorem room_room (i : Fin 5) : iprop(room (F := F) c s i ∗ room (F := F) c s i) ⊢ (False : sProp 𝕄) :=
  Release.slot_slot_false ⟨_, Finset.mem_map_of_mem _ (Finset.mem_univ (fun a => ⟨0, by revert a; decide⟩ : S128x4096.Idx))⟩

/-- Slot `sl i` of direction `s` is given to the device that sends into it, for its send `k`. -/
theorem give (c : Dev nD) (s : Bool) {k : ℕ} (hk : k < 14) :
    iprop(Ctx X κ ιs ∗ room (F := F) c s (sl (k + 2)) ∗ Release.readerAt ES (src s c, s, k) 0 ∗ reached ER (rcvC c s (sl (k + 2))) (k / 5))
      ⊢ iprop(|={Set.univ}=> grant (F := F) (src s c) s k) := by
  iintro ⟨#HC, Hroom, Hrd, #Hr⟩
  have hslot : keySlot (F := F) (src s c, s, k) = room (F := F) c s (sl (k + 2)) := by
    unfold keySlot; dsimp only; rw [tgt_src]
  imod (Release.slot_release ES (Set.mem_univ (ιs (src s c, s, k))) (S := keySlot (F := F) (src s c, s, k))
    (by rw [hslot]; exact room_room c s _) 0) $$ [Hroom Hrd] with ⟨-, #Hrel⟩
  · isplitr; · iapply (ctx_slot X κ ιs (mem_keys (src s c) s hk)); iexact HC
    isplitl [Hrd]; · iexact Hrd
    rw [hslot]; iexact Hroom
  imodintro
  unfold grant; rw [tgt_src]
  isplitr <;> iassumption

/-- The slot of the oldest chunk that has left is granted to the device before. -/
theorem grant_step (h11 : ng < 11) (hgw : ng < nw) (hr : nr ≤ ng + 5) (hr' : ng < nr) :
    Tri c (semSignalWord (src s c) (dir s).cr.sem 1#32 : K (F := F))
      iprop(Ctx X κ ιs ∗ Str X c s nr nc ns nw ng ∗ ow c (dues c s ns ng + O₂))
      iprop(Ctx X κ ιs ∗ Str X c s nr nc ns nw (ng + 1) ∗ ow c (dues c s ns (ng + 1) + O₂)) := by
  intro k Kt
  simp only [semSignalWord, Prog.lift, Prog.bind_op, Prog.bind_ret]
  unfold Str ow
  iintro ⟨#HC, ⟨H1, H2, H3, H4, H5, H6, H7, #H8, H9, H10, H11, H12, H13⟩, ⟨%W, HO⟩⟩ Hk
  ihave ⟨Hp, H3⟩ := (run_take (Φ := piece X fullShare c s) hgw) $$ H3
  ihave ⟨Htok, H10⟩ := (run_take (Φ := grantTok c s) h11) $$ H10
  ihave ⟨Hs, H4⟩ := (run_at (Φ := posR c s) (x := ng + 5) hr (by omega)) $$ H4
  unfold grantTok posR
  icases Htok with ⟨Htok, Hrd, #Hrc⟩
  icases Hs with ⟨Hs, #Hrr⟩
  ihave H4 := H4 $$ [Hs]
  · isplitl [Hs]; · iexact Hs
    iexact Hrr
  imod (give (X := X) (κ := κ) (ιs := ιs) c s (show ng + 3 < 14 by omega)) $$ [Hp Hrd] with #Hg
  · isplitr; · iexact HC
    isplitl [Hp]; · rw [show ng + 3 + 2 = ng + 5 by omega, sl_add5]; iapply (piece_room X c s ng); iexact Hp
    isplitl [Hrd]; · iexact Hrd
    iexact Hrr
  ihave #H8' := (run_put (Φ := grant (F := F) (src s c) s) (Nat.zero_le (ng + 3))) $$ [H8 Hg]
  · isplitr <;> iassumption
  iapply (Rounds.wp_signal 𝒱₀ ER (ringRd X) (c : Thread nD τ) none (dst := (src s c : Thread nD τ)) (κ := κ (src s c, iCrd s))
      (d := ng) (r := 0) (by rw [duties_crd]; exact Finset.mem_range.2 h11) ((amount_crd X (src s c) s 0 ng).trans (by decide)) (ng + 4)
      (O₀ := dues c s ns ng + O₂) (dues c s ns (ng + 1) + O₂) (by rw [dues_grant c s ns h11, add_right_comm]; rfl))
    $$ [HO Htok]
  · isplitr; · iapply (ctx_crd X κ ιs (src s c) s); iexact HC
    isplitl [HO]; · iexact HO
    isplitl [Htok]; · iexact Htok
    isplitr; · rw [payload_crd, Finset.range_eq_Ico]; iexact H8'
    iexact Hrc
  iintro HO
  iapply Hk
  isplitr; · iexact HC
  isplitr [HO]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitr; · rw [show ng + 1 + 3 = ng + 3 + 1 by omega]; iexact H8'
    isplitl [H9]; · iexact H9
    isplitl [H10]; · iexact H10
    isplitl [H11]; · iexact H11
    isplitl [H12] <;> iassumption
  iexists _; iexact HO

end Cert.KernelIdeal.Ring
-- ==== Proof.KernelIdeal.Compute.lean ====
/-
The arithmetic of the ring: a device's own chunks into its slots, the product of a chunk with the device's columns
into the rows it belongs to, and the buffers cut into slots.
-/
module

public import proofs.«01_k».proof.Proof.KernelIdeal.Moves
public import Idealize.ShloMosaic.Lib.Pipeline.Value
public import Idealize.ShloMosaic.Lib.Pipeline.ValueKit.Geometry

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The slots of a buffer -/

/-- The elements of slot `i` of a direction's buffer. -/
abbrev slotSet (s : Bool) (i : Fin 5) : Finset (dir s).buf.view.ty.Idx := (slotOf (dir s).buf i).view.set

theorem mem_slotRect (i : Fin 5) (x : S5x128x4096.Idx) : x ∈ (slotRect i).set ↔ (x 0).val = i.val := by
  rw [Rect.mem_set_unit]
  constructor
  · intro h
    have h0 := h 0
    simp [S1x128x4096] at h0
    omega
  · intro h a
    have h1 := (x 1).isLt
    have h2 := (x 2).isLt
    simp [S5x128x4096] at h1 h2
    fin_cases a <;> simp [S1x128x4096] <;> omega

theorem slotSet_false (i : Fin 5) : (slotSet false i : Finset S5x128x4096.Idx) = (slotRect i).set :=
  (View.set_reshape _ _).trans (View.set_slice_whole cc0_scratch0 (slotRect i))
theorem slotSet_true (i : Fin 5) : (slotSet true i : Finset S5x128x4096.Idx) = (slotRect i).set :=
  (View.set_reshape _ _).trans (View.set_slice_whole cc0_scratch1 (slotRect i))

theorem slotRect_disjoint {i j : Fin 5} (h : i ≠ j) : Disjoint (slotRect i).set (slotRect j).set :=
  Finset.disjoint_left.2 fun x hi hj =>
    h (Fin.ext (((mem_slotRect i x).1 hi).symm.trans ((mem_slotRect j x).1 hj)))

theorem slotSet_disjoint (s : Bool) {i j : Fin 5} (h : i ≠ j) : Disjoint (slotSet s i) (slotSet s j) := by
  cases s
  · rw [slotSet_false, slotSet_false]; exact slotRect_disjoint h
  · rw [slotSet_true, slotSet_true]; exact slotRect_disjoint h

theorem slotRect_cover : Finset.univ.biUnion (fun i => (slotRect i).set) = (Finset.univ : Finset S5x128x4096.Idx) :=
  Finset.eq_univ_of_forall fun x => Finset.mem_biUnion.2 ⟨⟨(x 0).val, (x 0).isLt⟩, Finset.mem_univ _, (mem_slotRect _ x).2 rfl⟩

theorem slotSet_cover (s : Bool) : Finset.univ.biUnion (slotSet s) = Finset.univ := by
  cases s
  · rw [show slotSet false = _ from funext slotSet_false]; exact slotRect_cover
  · rw [show slotSet true = _ from funext slotSet_true]; exact slotRect_cover

/-- A direction's whole buffer on a device, whatever it holds. -/
def bufAny (c : Dev nD) (s : Bool) : sProp 𝕄 :=
  iprop(∃ f, ((dir s).buf.view.loc (c : Thread nD τ)) ↦{fullShare} f)

omit [FloatOps F] in
/-- A buffer is its five slots. -/
theorem buf_cut (c : Dev nD) (s : Bool) : bufAny (F := F) c s ⊢ bigSep Finset.univ (room (F := F) c s) := by
  unfold bufAny
  iintro ⟨%f, H⟩
  rw [← slotSet_cover s]
  ihave H := (Entails.of_eq (pointsTo_biUnion (ℓ := (dir s).buf.view.loc (c : Thread nD τ)) (q := fullShare) (f := f) Finset.univ (slotSet s) (fun i _ j _ h => slotSet_disjoint s h))) $$ H
  have h : ∀ i : Fin 5, (((dir s).buf.view.loc (c : Thread nD τ)) ↦[slotSet s i]{fullShare} f : sProp 𝕄) ⊢ room c s i := fun i => by
    unfold room Release.slot; iintro H; iexists f; iexact H
  have h' : bigSep Finset.univ (fun i => (((dir s).buf.view.loc (c : Thread nD τ)) ↦[slotSet s i]{fullShare} f : sProp 𝕄)) ⊢ bigSep Finset.univ (room c s) :=
    bigSep_mono fun i _ => h i
  iapply h'; iexact H

/-- Five slots are the buffer again. -/
theorem buf_join (c : Dev nD) (s : Bool) : bigSep Finset.univ (room (F := F) c s) ⊢ bufAny (F := F) c s := by
  unfold room Release.slot bufAny
  haveI : Nonempty (Buf (Elt F) ((dir s).buf.view.loc (c : Thread nD τ))) := by
    cases s <;> exact ⟨fun _ => (Scalar.ofBits .f32 0x00000000#32 : F .f32)⟩
  iintro H
  ihave H := (BI.bigSep_exists_pi Finset.univ (fun (i : Fin 5) f => (((dir s).buf.view.loc (c : Thread nD τ)) ↦[slotSet s i]{fullShare} f : sProp 𝕄))) $$ H
  icases H with ⟨%fs, H⟩
  ihave H := (pointsTo_biUnion_join Finset.univ (slotSet s) fs (fs 0) (fun i _ j _ h => slotSet_disjoint s h)) $$ H
  icases H with ⟨%g, -, H⟩
  rw [slotSet_cover s]
  iexists g; iexact H

theorem sl_window (a : ℕ) : (Finset.univ : Finset (Fin 5)) = (Finset.Ico a (a + 5)).image sl := by
  symm
  refine Finset.eq_univ_of_forall fun i => Finset.mem_image.2 ⟨a + (i.val + 5 - a % 5) % 5, Finset.mem_Ico.2 (by omega), ?_⟩
  apply Fin.ext; unfold sl; dsimp only; have := i.isLt; omega
theorem sl_inj (a : ℕ) : Set.InjOn sl (Finset.Ico a (a + 5) : Finset ℕ) := fun x hx y hy h => by
  have hx := Finset.mem_Ico.1 (Finset.mem_coe.1 hx); have hy := Finset.mem_Ico.1 (Finset.mem_coe.1 hy)
  have h : x % 5 = y % 5 := congrArg Fin.val h
  omega

/-- The slots of five chunks in a row are all the slots. -/
theorem slots_window {Φ : Fin 5 → sProp 𝕄} (a : ℕ) : bigSep Finset.univ Φ = bigSep (Finset.Ico a (a + 5)) (fun x => Φ (sl x)) := by
  rw [sl_window a, bigSep_image_of_injOn (sl_inj a)]

end Cert.KernelIdeal.Ring
-- ==== Proof.KernelIdeal.Rows.lean ====
/-
The arithmetic of the ring: a device's own chunks into its slots, and the product of a chunk with the device's
columns into the rows of the result it belongs to.
-/
module

public import proofs.«01_k».proof.Proof.KernelIdeal.Compute

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The buffers the chunks come from and go to -/

/-- The columns the devices hold. -/
abbrev Cols : Type := Dev nD → S4096x1024.Idx → Elt F .f32

variable (X : Blocks (F := F)) (Wt : Cols (F := F))

/-- Device `c`'s block of rows. -/
def inPts (c : Dev nD) : sProp 𝕄 := (Memref.whole cc0_stg0_0).view.loc (c : Thread nD τ) ↦{fullShare} (X c)
/-- Device `c`'s columns. -/
def colPts (c : Dev nD) : sProp 𝕄 := (Memref.whole cc0_stg1_0).view.loc (c : Thread nD τ) ↦{fullShare} (Wt c)

theorem slot_reads (s : Bool) (i : Fin 5) : (dir s).buf.view.setOn (slotRect i).toLoadRect.set ⊆ slotSet s i :=
  ((View.set_slice (dir s).buf.view (slotRect i)).symm.trans (View.set_reshape ((dir s).buf.view.slice (slotRect i)) _).symm).subset
theorem slot_writes (s : Bool) (i : Fin 5) : ((dir s).buf.access (slotRect i)).setOn Finset.univ ⊆ slotSet s i :=
  (View.set_reshape ((dir s).buf.view.slice (slotRect i)) _).symm.subset

/-- A quarter of the device's block goes into a slot. -/
theorem own_step (c : Dev nD) (s : Bool) (q : Fin 2) :
    Tri c (own (F := F) (Memref.whole cc0_stg0_0) (dir s).buf ![256 * s.toNat + 128 * q.val, 0] (inbOwn s q) (sl q.val))
      iprop(inPts X c ∗ room c s (sl q.val)) iprop(inPts X c ∗ piece X fullShare c s q.val) := by
  intro k Kt
  unfold own
  simp only [Prog.lift, Prog.bind_op, Prog.bind_ret]
  unfold inPts room Release.slot
  iintro ⟨Hx, ⟨%f, Hr⟩⟩ Hk
  iapply (wp_load 𝒱₀ (c : Thread nD τ) none Set.univ (m := Memref.whole cc0_stg0_0) (S := Finset.univ) (Finset.subset_univ _)) $$ Hx
  iintro Hx
  iapply (wp_load 𝒱₀ (c : Thread nD τ) none Set.univ (m := (dir s).buf) (S := slotSet s (sl q.val)) (f := f) (slot_reads s _)) $$ Hr
  iintro Hr
  iapply (wp_store 𝒱₀ (c : Thread nD τ) none Set.univ (m := (dir s).buf) (r := slotRect (sl q.val)) (Mk := Finset.univ)
    (S := slotSet s (sl q.val)) (f := f) (slot_writes s _)) $$ Hr
  iintro Hr
  iapply Hk
  isplitl [Hx]; · iexact Hx
  unfold piece owns
  iexists _
  isplitr
  rotate_left; · iexact Hr
  ipureintro
  have hq : chunk X s c q.val = fun i => X c ((ownRect s q).emb i) := by
    unfold chunk
    have h1 : q.val / 2 = 0 := by have := q.isLt; omega
    have h2 : qtr q.val = q := Fin.ext (by have := q.isLt; show q.val % 2 = q.val; omega)
    rw [h1, h2]; rfl
  rw [hq]
  refine (congrArg (fun v => shapeCast S128x4096 v shapeCasts_S1x128x4096_S128x4096) (View.read_write_univ (v := (dir s).buf.view.slice (slotRect (sl q.val))) f _)).trans ?_
  unfold k0_pay1
  rw [shapeCast_shapeCast, shapeCast_self]
  rfl

/-! ## The rows of the result -/

/-- A chunk times the columns, with the activation. -/
def gel (A : S128x4096.Idx → Elt F .f32) (W : S4096x1024.Idx → Elt F .f32) : S128x1024.Idx → Elt F .f32 :=
  k0_pay6 (shapeCast S1x128x4096 A shapeCasts_S128x4096_S1x128x4096) W

/-- The first row chunk `x` of direction `s` covers in the result of device `c`. -/
def rowOf (c : Dev nD) (s : Bool) (x : ℕ) : ℕ :=
  bif s then 512 * ((c.val + x / 2) % 8) + 128 * (x % 2) + 256 else 512 * ((c.val + 8 - x / 2) % 8) + 128 * (x % 2)

/-- The direction and the number of the chunk that covers row `r`. -/
def rowDir (r : ℕ) : Bool := decide (2 ≤ r / 128 % 4)
def rowChunk (c : Dev nD) (r : ℕ) : ℕ :=
  bif rowDir r then 2 * ((r / 512 + 8 - c.val) % 8) + (r / 128 % 4 - 2) else 2 * ((c.val + 8 - r / 512) % 8) + r / 128 % 4

theorem row_iff (c : Dev nD) (s : Bool) {x r : ℕ} (hx : x < 16) (hr : r < 4096) :
    (rowOf c s x ≤ r ∧ r < rowOf c s x + 128) ↔ rowDir r = s ∧ rowChunk c r = x := by
  have hc : c.val < 8 := c.isLt
  unfold rowChunk rowOf rowDir
  by_cases h : 2 ≤ r / 128 % 4 <;> cases s <;> simp only [h, decide_true, decide_false, cond_true, cond_false, true_and, false_and, iff_false, Bool.true_eq_false, Bool.false_eq_true, reduceCtorEq] <;> omega

/-- Row `r`, column `l` inside its chunk. -/
def inChunk (i : S4096x1024.Idx) : S128x1024.Idx := fun a =>
  match a with
  | 0 => ⟨(i 0).val % 128, Nat.mod_lt _ (by decide)⟩
  | 1 => ⟨(i 1).val, (i 1).isLt⟩

/-- The result of device `c`: each row from the chunk that covers it. -/
def outAt (c : Dev nD) : S4096x1024.Idx → Elt F .f32 := fun i =>
  gel (chunk X (rowDir (i 0).val) c (rowChunk c (i 0).val)) (Wt c) (inChunk i)

/-- Device `c`'s result buffer, with the first `n s` chunks of each direction `s` done. -/
def Out (c : Dev nD) (n : Bool → ℕ) : sProp 𝕄 :=
  iprop(∃ g : S4096x1024.Idx → Elt F .f32, ⌜∀ i : S4096x1024.Idx, rowChunk c (i 0).val < n (rowDir (i 0).val) → g i = outAt X Wt c i⌝
    ∗ (Memref.whole cc0_stg2_0).view.loc (c : Thread nD τ) ↦{fullShare} g)

/-- Storing chunk `x`'s rows makes one more chunk of the result done. -/
theorem stored (c : Dev nD) (s : Bool) {x : ℕ} (hx : x < 16) (n : Bool → ℕ) (hn : n s = x)
    (h : ∀ a, (![rowOf c s x, 0] : Fin 2 → Nat) a + S128x1024.size a ≤ S4096x1024.size a) (g : S4096x1024.Idx → Elt F .f32)
    (hg : ∀ i : S4096x1024.Idx, rowChunk c (i 0).val < n (rowDir (i 0).val) → g i = outAt X Wt c i) (i : S4096x1024.Idx)
    (hi : rowChunk c (i 0).val < Function.update n s (x + 1) (rowDir (i 0).val)) :
    (((Memref.whole cc0_stg2_0).access (Rect.unit (s := S4096x1024) ![rowOf c s x, 0] S128x1024.size h)).write (Elt F) g
      (gel (chunk X s c x) (Wt c)) Finset.univ : S4096x1024.Idx → Elt F .f32) i = outAt X Wt c i := by
  have hi0 : (i 0).val < 4096 := (i 0).isLt
  by_cases hr : rowDir (i 0).val = s ∧ rowChunk c (i 0).val = x
  · have hm : i ∈ (Rect.unit (s := S4096x1024) ![rowOf c s x, 0] S128x1024.size h).set := by
      rw [Rect.mem_set_unit]
      have h1 := (row_iff c s hx hi0).2 hr
      have h2 := (i 1).isLt
      simp [S4096x1024] at h2
      intro a; fin_cases a <;> simp [S128x1024] <;> omega
    obtain ⟨k, -, hk⟩ := Finset.mem_map.1 ((Rect.map_emb_univ _).symm ▸ hm)
    have hk0 : (i 0).val = rowOf c s x + (k 0).val := by rw [← hk]; exact ValueKit.rect_emb_unit_val _ _ h k 0
    have hk1 : (i 1).val = 0 + (k 1).val := by rw [← hk]; exact ValueKit.rect_emb_unit_val _ _ h k 1
    have hkk : inChunk i = k := by
      funext a
      fin_cases a
      · apply Fin.ext
        have h3 : (k 0).val < 128 := (k 0).isLt
        show (i 0).val % 128 = (k 0).val
        rw [hk0]; unfold rowOf; cases s <;> simp only [cond_true, cond_false] <;> omega
      · apply Fin.ext
        show (i 1).val = (k 1).val
        omega
    have hout : outAt X Wt c i = gel (chunk X s c x) (Wt c) k := by unfold outAt; rw [hr.1, hr.2, hkk]
    rw [hout, ← hk]
    exact View.write_emb_of_mem (v := (Memref.whole cc0_stg2_0).access (Rect.unit (s := S4096x1024) ![rowOf c s x, 0] S128x1024.size h)) g _ (Finset.mem_univ k)
  · have hm : i ∉ (Rect.unit (s := S4096x1024) ![rowOf c s x, 0] S128x1024.size h).set := fun hm => hr (by
      rw [Rect.mem_set_unit] at hm
      exact (row_iff c s hx hi0).1 (hm 0))
    refine (View.write_of_not_mem (v := (Memref.whole cc0_stg2_0).access (Rect.unit (s := S4096x1024) ![rowOf c s x, 0] S128x1024.size h)) g _ _
      (fun hm' => hm ((View.set_slice_whole cc0_stg2_0 _) ▸ hm'))).trans (hg i ?_)
    by_cases hd : rowDir (i 0).val = s
    · rw [hd, Function.update_self] at hi
      rw [hd, hn]
      have : rowChunk c (i 0).val ≠ x := fun h => hr ⟨hd, h⟩
      omega
    · rwa [Function.update_of_ne hd] at hi

/-- Chunk `x` is multiplied and its rows of the result stored. -/
theorem gemm_step (c : Dev nD) (s : Bool) (q : PosShare TreeShare) {x : ℕ} (hx : x < 16) (n : Bool → ℕ) (hn : n s = x) {off : Fin 2 → Nat} (ho : off = ![rowOf c s x, 0])
    (h : ∀ a, off a + S128x1024.size a ≤ S4096x1024.size a) :
    Tri c (gemm (F := F) (Memref.whole cc0_stg1_0) (Memref.whole cc0_stg2_0) (dir s) x off h)
      iprop(piece X q c s x ∗ colPts Wt c ∗ Out X Wt c n)
      iprop(piece X q c s x ∗ colPts Wt c ∗ Out X Wt c (Function.update n s (x + 1))) := by
  subst ho
  intro k Kt
  unfold gemm
  simp only [Prog.lift, Prog.bind_op, Prog.bind_ret]
  unfold colPts Out piece owns
  iintro ⟨⟨%f, %hf, Hp⟩, Hw, ⟨%g, %hg, Ho⟩⟩ Hk
  iapply (wp_load 𝒱₀ (c : Thread nD τ) none Set.univ (m := (dir s).buf) (S := slotSet s (sl x)) (f := f) (slot_reads s _)) $$ Hp
  iintro Hp
  iapply (wp_load 𝒱₀ (c : Thread nD τ) none Set.univ (m := Memref.whole cc0_stg1_0) (S := Finset.univ) (Finset.subset_univ _)) $$ Hw
  iintro Hw
  iapply (wp_load 𝒱₀ (c : Thread nD τ) none Set.univ (m := Memref.whole cc0_stg2_0) (S := Finset.univ) (f := g) (Finset.subset_univ _)) $$ Ho
  iintro Ho
  iapply (wp_store 𝒱₀ (c : Thread nD τ) none Set.univ (m := Memref.whole cc0_stg2_0) (r := Rect.unit (s := S4096x1024) ![rowOf c s x, 0] S128x1024.size h) (Mk := Finset.univ)
    (S := Finset.univ) (f := g) (Finset.subset_univ _)) $$ Ho
  iintro Ho
  iapply Hk
  have hA : (dir s).buf.view.readAt (Elt F) (slotRect (sl x)).toLoadRect f = shapeCast S1x128x4096 (chunk X s c x) shapeCasts_S128x4096_S1x128x4096 := by
    have hr := Memref.read_squeeze_slice (Val := Elt F) (dir s).buf (slotRect (sl x)) (fun _ => rfl) squeezes_S1x128x4096_S128x4096 shapeCasts_S1x128x4096_S128x4096 f
    rw [← hf, hr, shapeCast_shapeCast]
  have hW : (Memref.whole cc0_stg1_0).view.readAt (Elt F) (Rect.unit (s := S4096x1024) ![0, 0] S4096x1024.size inb_S4096x1024_S4096x1024_0_0).toLoadRect (Wt c) = Wt c :=
    Memref.readAt_unit_zero (Elt F) cc0_stg1_0 (by funext a; fin_cases a <;> rfl) _ _
  rw [hA, hW]
  isplitl [Hp]
  · iexists f; isplitr; · (ipureintro; exact hf)
    iexact Hp
  isplitl [Hw]; · iexact Hw
  iexists _
  isplitr
  rotate_left; · iexact Ho
  ipureintro
  exact stored X Wt c s hx n hn h g hg

end Cert.KernelIdeal.Ring
-- ==== Proof.KernelIdeal.Iter.lean ====
/-
The sixteen steps of a device: both directions move by one chunk, and both chunks are multiplied.
-/
module

public import proofs.«01_k».proof.Proof.KernelIdeal.Rows

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Blocks (F := F)) (Wt : Cols (F := F)) (κ : Dev nD × Fin 23 → ℕ) (ιs : Key → ℕ)

/-- One direction's stream at the counts `a`. -/
def StrC (c : Dev nD) (s : Bool) (a : Cnt) : sProp 𝕄 := Str X c s a.nr a.nc a.ns a.nw a.ng
/-- What one direction still owes at the counts `a`. -/
abbrev duesC (c : Dev nD) (s : Bool) (a : Cnt) : CellTallies nD τ sig ℕ := dues c s a.ns a.ng
/-- Both directions at the same counts. -/
def Core (c : Dev nD) (a : Cnt) : sProp 𝕄 :=
  iprop(Ctx X κ ιs ∗ StrC X c false a ∗ StrC X c true a ∗ ow c (duesC c false a + duesC c true a))
/-- A device between two operations: both directions at the counts `a`, and `n` chunks of each multiplied. -/
def St (c : Dev nD) (a : Cnt) (n : Bool → ℕ) : sProp 𝕄 :=
  iprop(Core X κ ιs c a ∗ colPts Wt c ∗ Out X Wt c n)

variable {X Wt κ ιs} (c : Dev nD)

/-- An operation that moves one direction, whatever else is owed above level `m`, moves both one after the other. -/
theorem both_lift {p : Bool → K (F := F)} {a a' : Cnt} (m : ℕ)
    (hp : ∀ (s : Bool) (O₂ : CellTallies nD τ sig ℕ), Above m O₂ →
      Tri c (p s) iprop(Ctx X κ ιs ∗ StrC X c s a ∗ ow c (duesC c s a + O₂)) iprop(Ctx X κ ιs ∗ StrC X c s a' ∗ ow c (duesC c s a' + O₂)))
    (h : Above m (duesC c true a)) (h' : Above m (duesC c false a')) :
    Tri c (both (p false) (p true)) (Core X κ ιs c a) (Core X κ ιs c a') := by
  unfold both
  refine Tri.seq (Tri.conseq (P' := iprop((Ctx X κ ιs ∗ StrC X c false a ∗ ow c (duesC c false a + duesC c true a)) ∗ StrC X c true a)) ?_
    (Tri.frame (hp false _ h) _) (Q := iprop((Ctx X κ ιs ∗ StrC X c true a ∗ ow c (duesC c true a + duesC c false a')) ∗ StrC X c false a')) ?_)
    (Tri.conseq (BI.Entails.refl _) (Tri.frame (hp true _ h') _) ?_)
  · unfold Core
    iintro ⟨#HC, HA, HB, HO⟩
    isplitr [HB]; · isplitr; · iexact HC
                    isplitl [HA] <;> iassumption
    iexact HB
  · iintro ⟨⟨#HC, HA, HO⟩, HB⟩
    isplitr [HA]; · isplitr; · iexact HC
                    isplitl [HB]; · iexact HB
                    rw [add_comm]; iexact HO
    iexact HA
  · unfold Core
    iintro ⟨⟨#HC, HB, HO⟩, HA⟩
    isplitr; · iexact HC
    isplitl [HA]; · iexact HA
    isplitl [HB]; · iexact HB
    rw [add_comm]; iexact HO

theorem both_move {p : Bool → K (F := F)} {a a' : Cnt} {n : Bool → ℕ} (m : ℕ)
    (hp : ∀ (s : Bool) (O₂ : CellTallies nD τ sig ℕ), Above m O₂ →
      Tri c (p s) iprop(Ctx X κ ιs ∗ StrC X c s a ∗ ow c (duesC c s a + O₂)) iprop(Ctx X κ ιs ∗ StrC X c s a' ∗ ow c (duesC c s a' + O₂)))
    (h : Above m (duesC c true a)) (h' : Above m (duesC c false a')) :
    Tri c (both (p false) (p true)) (St X Wt κ ιs c a n) (St X Wt κ ιs c a' n) :=
  Tri.frame (both_lift c m hp h h') _

omit [FloatOps F] in
/-- A chunk that is here can be read, whether it is under way to the next device or not. -/
theorem chunk_here (s : Bool) {a : Cnt} {j : ℕ} (h : (a.ns ≤ j ∧ j < a.nr) ∨ (a.nw ≤ j ∧ j < a.ns)) :
    StrC X c s a ⊢ iprop(∃ q, piece X q c s j ∗ (piece X q c s j -∗ StrC X c s a)) := by
  unfold StrC Str
  rcases h with ⟨h1, h2⟩ | ⟨h1, h2⟩
  · iintro ⟨H1, HR⟩
    iexists fullShare
    ihave ⟨Hp, H1⟩ := (run_at (Φ := piece X fullShare c s) h1 h2) $$ H1
    isplitl [Hp]; · iexact Hp
    iintro Hp
    ihave H1 := H1 $$ Hp
    isplitl [H1] <;> iassumption
  · iintro ⟨H1, H2, HR⟩
    iexists fullShare.right
    ihave ⟨Hp, H2⟩ := (run_at (Φ := piece X fullShare.right c s) h1 h2) $$ H2
    isplitl [Hp]; · iexact Hp
    iintro Hp
    ihave H2 := H2 $$ Hp
    isplitl [H1]; · iexact H1
    isplitl [H2] <;> iassumption

theorem Tri.exist {ι : Type} {p : K (F := F)} {P : ι → sProp (MT nD τ sig ℕ (Elt F) ℕ UU ℕ)} {Q : sProp (MT nD τ sig ℕ (Elt F) ℕ UU ℕ)}
    (h : ∀ q, Tri c p (P q) Q) : Tri c p iprop(∃ q, P q) Q := by
  intro k Kt
  iintro ⟨%q, HP⟩
  iapply (h q k Kt); iexact HP

/-- One direction's product of a step. -/
theorem gemm_one (s : Bool) {a : Cnt} {j : ℕ} (hj : j < 16) (n : Bool → ℕ) (hn : n s = j)
    (h : (a.ns ≤ j ∧ j < a.nr) ∨ (a.nw ≤ j ∧ j < a.ns)) {off : Fin 2 → Nat} (ho : off = ![rowOf c s j, 0])
    (hb : ∀ a, off a + S128x1024.size a ≤ S4096x1024.size a) :
    Tri c (gemm (F := F) (Memref.whole cc0_stg1_0) (Memref.whole cc0_stg2_0) (dir s) j off hb)
      iprop(StrC X c s a ∗ colPts Wt c ∗ Out X Wt c n)
      iprop(StrC X c s a ∗ colPts Wt c ∗ Out X Wt c (Function.update n s (j + 1))) := by
  refine Tri.conseq (P' := iprop(∃ q, (piece X q c s j ∗ colPts Wt c ∗ Out X Wt c n) ∗ (piece X q c s j -∗ StrC X c s a))) ?_
    (Tri.exist c fun q => Tri.conseq (BI.Entails.refl _) (Tri.frame (gemm_step X Wt c s q hj n hn ho hb) _) ?_) (BI.Entails.refl _)
  · iintro ⟨HA, HW⟩
    ihave HA := (chunk_here c s h) $$ HA
    icases HA with ⟨%q, Hp, HA⟩
    iexists q
    isplitr [HA]; · isplitl [Hp] <;> iassumption
    iexact HA
  · iintro ⟨⟨Hp, HW⟩, HA⟩
    ihave HA := HA $$ Hp
    isplitl [HA] <;> iassumption

theorem off_A {j : ℕ} (hj : j < 16) : offA c j = ![rowOf c false j, 0] := by
  have h : j / 2 % 8 = j / 2 := by omega
  unfold offA; rw [k0_off1_eq c (hop j) (qtr j)]; unfold rowOf; simp only [cond_false, h]
theorem off_B {j : ℕ} (hj : j < 16) : offB c j = ![rowOf c true j, 0] := by
  have h : j / 2 % 8 = j / 2 := by omega
  unfold offB; rw [k0_off2_eq c (hop j) (qtr j)]; unfold rowOf; simp only [cond_true, h]

/-- Both products of a step. -/
theorem gemm_both {a : Cnt} {j : ℕ} (hj : j < 16) (h : (a.ns ≤ j ∧ j < a.nr) ∨ (a.nw ≤ j ∧ j < a.ns)) :
    Tri c (both (gemm (F := F) (Memref.whole cc0_stg1_0) (Memref.whole cc0_stg2_0) (dir false) j (offA c j) (k0_off1_inb c (hop j) (qtr j)))
        (gemm (F := F) (Memref.whole cc0_stg1_0) (Memref.whole cc0_stg2_0) (dir true) j (offB c j) (k0_off2_inb c (hop j) (qtr j))))
      (St X Wt κ ιs c a fun _ => j) (St X Wt κ ιs c a fun _ => j + 1) := by
  unfold both St Core
  refine Tri.seq
    (Tri.conseq (P' := iprop((StrC X c false a ∗ colPts Wt c ∗ Out X Wt c fun _ => j)
        ∗ (Ctx X κ ιs ∗ StrC X c true a ∗ ow c (duesC c false a + duesC c true a)))) ?_
      (Tri.frame (gemm_one c false hj (fun _ => j) rfl h (off_A c hj) _) _)
      (Q := iprop((StrC X c true a ∗ colPts Wt c ∗ Out X Wt c (Function.update (fun _ => j) false (j + 1)))
        ∗ (Ctx X κ ιs ∗ StrC X c false a ∗ ow c (duesC c false a + duesC c true a)))) ?_)
    (Tri.conseq (BI.Entails.refl _) (Tri.frame (gemm_one c true hj (Function.update (fun _ => j) false (j + 1)) rfl h (off_B c hj) _) _) ?_)
  · iintro ⟨⟨#HC, HA, HB, HO⟩, HW⟩
    isplitl [HA HW]; · isplitl [HA] <;> iassumption
    isplitr; · iexact HC
    isplitl [HB] <;> iassumption
  · iintro ⟨⟨HA, HW⟩, ⟨#HC, HB, HO⟩⟩
    isplitl [HB HW]; · isplitl [HB] <;> iassumption
    isplitr; · iexact HC
    isplitl [HA] <;> iassumption
  · rw [show Function.update (Function.update (fun _ : Bool => j) false (j + 1)) true (j + 1) = fun _ => j + 1 by
      funext b; cases b <;> rfl]
    iintro ⟨⟨HB, HW⟩, ⟨#HC, HA, HO⟩⟩
    isplitr [HW]
    · isplitr; · iexact HC
      isplitl [HA]; · iexact HA
      isplitl [HB] <;> iassumption
    iexact HW

/-! ## The counts during a step -/

/-- The counts before step `j`. -/
def cnt (j : ℕ) : Cnt := ⟨max 2 j, min (j - 3) 11, min j 14, min (j - 2) 14, min (j - 2) 11⟩

/-- One step. -/
theorem step_tri {j : ℕ} (hj : j < 16) :
    Tri c (step (F := F) (Memref.whole cc0_stg1_0) (Memref.whole cc0_stg2_0) (dir false) (dir true) c (nxt c) (prv c) (prv c) (nxt c) j)
      (St X Wt κ ιs c (cnt j) fun _ => j) (St X Wt κ ιs c (cnt (j + 1)) fun _ => j + 1) := by
  unfold step
  refine Tri.seq (Q := St X Wt κ ιs c ⟨max 2 (j + 1), min (j - 3) 11, min j 14, min (j - 2) 14, min (j - 2) 11⟩ fun _ => j) ?_ <|
    Tri.seq (Q := St X Wt κ ιs c ⟨max 2 (j + 1), min (j - 2) 11, min j 14, min (j - 2) 14, min (j - 2) 11⟩ fun _ => j) ?_ <|
    Tri.seq (Q := St X Wt κ ιs c ⟨max 2 (j + 1), min (j - 2) 11, min (j + 1) 14, min (j - 2) 14, min (j - 2) 11⟩ fun _ => j) ?_ <|
    Tri.seq (Q := St X Wt κ ιs c ⟨max 2 (j + 1), min (j - 2) 11, min (j + 1) 14, min (j - 2) 14, min (j - 2) 11⟩ fun _ => j + 1) ?_ <|
    Tri.seq (Q := St X Wt κ ιs c ⟨max 2 (j + 1), min (j - 2) 11, min (j + 1) 14, min (j - 1) 14, min (j - 2) 11⟩ fun _ => j + 1) ?_ ?_
  · refine Tri.only (fun h => ?_) (fun h => ?_)
    · have h := of_decide_eq_true h
      rw [show cnt j = ⟨j, min (j - 3) 11, min j 14, min (j - 2) 14, min (j - 2) 11⟩ by unfold cnt; rw [Nat.max_eq_right h],
        show max 2 (j + 1) = j + 1 by omega]
      exact both_move c j (p := fun s => recvWait (dir s) j)
        (fun s O₂ hO => recv_step c s O₂ h hj (by dsimp only; omega) (above_add (above_dues c s (by dsimp only; omega) (by dsimp only; omega)) hO))
        (above_dues c true (by dsimp only; omega) (by dsimp only; omega)) (above_dues c false (by dsimp only; omega) (by dsimp only; omega))
    · have h := of_decide_eq_false h
      exact Entails.of_eq (congrArg (fun a => St X Wt κ ιs c a _) (by unfold cnt; rw [Cnt.mk.injEq]; omega))
  · refine Tri.only (fun h => ?_) (fun h => ?_)
    · simp only [Bool.and_eq_true, decide_eq_true_eq] at h
      rw [show (⟨max 2 (j + 1), min (j - 2) 11, min j 14, min (j - 2) 14, min (j - 2) 11⟩ : Cnt) = ⟨max 2 (j + 1), min (j - 3) 11 + 1, min j 14, min (j - 2) 14, min (j - 2) 11⟩ by (try unfold cnt); rw [Cnt.mk.injEq]; omega]
      exact both_move c (min (j - 3) 11 + 4) (p := fun s => semWaitWord (dir s).cr.sem 1#32)
        (fun s O₂ hO => credit_step c s O₂ (by dsimp only; omega) (above_add (above_dues c s (by dsimp only; omega) (by dsimp only; omega)) hO))
        (above_dues c true (by dsimp only; omega) (by dsimp only; omega)) (above_dues c false (by dsimp only; omega) (by dsimp only; omega))
    · simp only [Bool.and_eq_false_iff, decide_eq_false_iff_not] at h
      exact Entails.of_eq (congrArg (fun a => St X Wt κ ιs c a _) (by (try unfold cnt); rw [Cnt.mk.injEq]; omega))
  · refine Tri.only (fun h => ?_) (fun h => ?_)
    · have h := of_decide_eq_true h
      rw [show min (j + 1) 14 = j + 1 by omega, show min j 14 = j by omega]
      exact both_move c 0 (p := fun s => send (dir s) (tgt s c) j)
        (fun s O₂ hO => send_step c s O₂ h (by dsimp only; omega) (by dsimp only; omega) (by dsimp only; omega) (by dsimp only; omega))
        (above_dues c true (by dsimp only; omega) (by dsimp only; omega)) (above_dues c false (by dsimp only; omega) (by dsimp only; omega))
    · have h := of_decide_eq_false h
      exact Entails.of_eq (congrArg (fun a => St X Wt κ ιs c a _) (by rw [Cnt.mk.injEq]; omega))
  · exact gemm_both c hj (by dsimp only; omega)
  · refine Tri.only (fun h => ?_) (fun h => ?_)
    · have h := of_decide_eq_true h
      obtain ⟨i, rfl⟩ : ∃ i, j = i + 2 := ⟨j - 2, by omega⟩
      rw [show min (i + 2 - 1) 14 = i + 1 by omega, show min (i + 2 - 2) 14 = i by omega]
      exact both_move c 0 (p := fun s => sendWait (dir s) (i + 2))
        (fun s O₂ hO => sent_step c s O₂ (by dsimp only; omega) (by dsimp only; omega) (by dsimp only; omega) (above_add (above_dues c s (by dsimp only; omega) (by dsimp only; omega)) hO))
        (above_dues c true (by dsimp only; omega) (by dsimp only; omega)) (above_dues c false (by dsimp only; omega) (by dsimp only; omega))
    · have h := of_decide_eq_false h
      exact Entails.of_eq (congrArg (fun a => St X Wt κ ιs c a _) (by rw [Cnt.mk.injEq]; omega))
  · refine Tri.only (fun h => ?_) (fun h => ?_)
    · simp only [Bool.and_eq_true, decide_eq_true_eq] at h
      rw [show cnt (j + 1) = ⟨max 2 (j + 1), min (j - 2) 11, min (j + 1) 14, min (j - 1) 14, min (j - 2) 11 + 1⟩ by (try unfold cnt); rw [Cnt.mk.injEq]; omega]
      exact both_move c 0 (p := fun s => semSignalWord (src s c) (dir s).cr.sem 1#32)
        (fun s O₂ hO => grant_step c s O₂ (by dsimp only; omega) (by dsimp only; omega) (by dsimp only; omega) (by dsimp only; omega))
        (above_dues c true (by dsimp only; omega) (by dsimp only; omega)) (above_dues c false (by dsimp only; omega) (by dsimp only; omega))
    · simp only [Bool.and_eq_false_iff, decide_eq_false_iff_not] at h
      exact Entails.of_eq (congrArg (fun a => St X Wt κ ιs c a _) (by (try unfold cnt); rw [Cnt.mk.injEq]; omega))

/-- The last `n` steps. -/
theorem run_tri (n : ℕ) (hn : n ≤ 16) :
    Tri c (run (F := F) (Memref.whole cc0_stg1_0) (Memref.whole cc0_stg2_0) (dir false) (dir true) c n)
      (St X Wt κ ιs c (cnt (16 - n)) fun _ => 16 - n) (St X Wt κ ιs c (cnt 16) fun _ => 16) := by
  induction n with
  | zero => exact Tri.skip (BI.Entails.refl _)
  | succ n ih =>
    have h1 : 16 - (n + 1) = 15 - n := by omega
    have h2 : 16 - n = 15 - n + 1 := by omega
    have ih := ih (by omega)
    rw [h2] at ih
    rw [h1]
    exact Tri.seq (step_tri c (by omega)) ih

end Cert.KernelIdeal.Ring
-- ==== Proof.KernelIdeal.Ends.lean ====
/-
The opening of a device's program (the handshake with the neighbours, its own chunks into the slots) and its end,
when every semaphore is at rest and the slots are one buffer again.
-/
module

public import proofs.«01_k».proof.Proof.KernelIdeal.Iter

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Blocks (F := F)) (Wt : Cols (F := F)) (κ : Dev nD × Fin 23 → ℕ) (ιs : Key → ℕ)

/-! ## The semaphores of a device, by what they count -/

/-- What a family over the semaphores of a device is on those of one direction. -/
def half (s : Bool) (Φ : Fin 23 → sProp (MT nD τ sig ℕ (Elt F) ℕ UU ℕ)) : sProp (MT nD τ sig ℕ (Elt F) ℕ UU ℕ) :=
  iprop(Φ (iCrd s) ∗ bigSep Finset.univ (fun i => Φ (iSnd s i)) ∗ bigSep Finset.univ (fun i => Φ (iRcv s i)))

theorem iSnd_inj (s : Bool) : Function.Injective (iSnd s) := by revert s; decide
theorem iRcv_inj (s : Bool) : Function.Injective (iRcv s) := by revert s; decide

omit [FloatOps F] in
/-- The semaphores of a device are the handshake's and those of both directions. -/
theorem cells_split (Φ : Fin 23 → sProp 𝕄) : bigSep Finset.univ Φ = iprop(Φ 2 ∗ half false Φ ∗ half true Φ) := by
  have hD : ∀ s : Bool, bigSep (insert (iCrd s) (Finset.univ.image (iSnd s) ∪ Finset.univ.image (iRcv s))) Φ = half s Φ := fun s => by
    rw [BI.bigSep_insert (by revert s; decide), BI.bigSep_union (by revert s; decide),
      bigSep_image_of_injOn (iSnd_inj s).injOn, bigSep_image_of_injOn (iRcv_inj s).injOn]
    rfl
  have hU : (Finset.univ : Finset (Fin 23)) = insert 2 (insert (iCrd false) (Finset.univ.image (iSnd false) ∪ Finset.univ.image (iRcv false))
      ∪ insert (iCrd true) (Finset.univ.image (iSnd true) ∪ Finset.univ.image (iRcv true))) := by decide
  rw [hU, BI.bigSep_insert (by decide), BI.bigSep_union (by decide), hD, hD]
  rfl

/-! ## What a device starts with -/

section Start
variable (c : Dev nD) (s : Bool)

/-- The right to pay the handshake unit of one direction, which goes to the device before. -/
def barTok : sProp 𝕄 := iprop(dutyTok ER (barC (src s c)) 0 s.toNat ∗ reached ER (barC (src s c)) 0)
/-- A direction at the start. -/
def Start : sProp 𝕄 :=
  iprop(bigSep (Finset.Ico 0 3) (fun k => Release.readerAt ES (src s c, s, k) 0) ∗ barTok c s
    ∗ bigSep (Finset.Ico 2 7) (posR c s) ∗ bigSep (Finset.Ico 0 5) (posS c s) ∗ atPos ER (crdC c s) 0 ∅ 0
    ∗ bigSep (Finset.Ico 0 14) (sendTok c s) ∗ bigSep (Finset.Ico 0 11) (grantTok c s)
    ∗ bigSep (Finset.Ico 2 16) (recvCred c s) ∗ bigSep (Finset.Ico 0 11) (crdCred c s))
/-- A direction after the handshake, its first two slots empty. -/
def Ready : sProp 𝕄 :=
  iprop(room c s (sl 0) ∗ room c s (sl 1) ∗ bigSep (Finset.Ico 2 7) (posR c s) ∗ bigSep (Finset.Ico 0 5) (posS c s) ∗ atPos ER (crdC c s) 0 ∅ 0
    ∗ bigSep (Finset.Ico 0 3) (grant c s) ∗ bigSep (Finset.Ico 0 3) (grant (src s c) s)
    ∗ bigSep (Finset.Ico 0 14) (sendTok c s) ∗ bigSep (Finset.Ico 0 11) (grantTok c s)
    ∗ bigSep (Finset.Ico 2 16) (recvCred c s) ∗ bigSep (Finset.Ico 0 11) (crdCred c s))
/-- A direction before its handshake unit is paid. -/
def Given : sProp 𝕄 :=
  iprop(room c s (sl 0) ∗ room c s (sl 1) ∗ barTok c s ∗ bigSep (Finset.Ico 2 7) (posR c s) ∗ bigSep (Finset.Ico 0 5) (posS c s) ∗ atPos ER (crdC c s) 0 ∅ 0
    ∗ bigSep (Finset.Ico 0 3) (grant (src s c) s)
    ∗ bigSep (Finset.Ico 0 14) (sendTok c s) ∗ bigSep (Finset.Ico 0 11) (grantTok c s)
    ∗ bigSep (Finset.Ico 2 16) (recvCred c s) ∗ bigSep (Finset.Ico 0 11) (crdCred c s))
end Start

/-- What a device owes at the start. -/
def O₀ (c : Dev nD) : CellTallies nD τ sig ℕ :=
  tallyAt (barC (src false c)) 1 1 + (tallyAt (barC (src true c)) 1 1 + (dues c false 0 0 + dues c true 0 0))

variable {X Wt κ ιs} (c : Dev nD)

omit [FloatOps F] in
/-- A resource per element is updated, with a record at hand that is never used up. -/
theorem each_fupd {I : Type} {S : Finset I} {R : sProp (MT nD τ sig ℕ (Elt F) ℕ UU ℕ)} [BI.Persistent R]
    {Φ Ψ : I → sProp (MT nD τ sig ℕ (Elt F) ℕ UU ℕ)} (h : ∀ i ∈ S, iprop(R ∗ Φ i) ⊢ iprop(|={Set.univ}=> Ψ i)) :
    iprop(R ∗ bigSep S Φ) ⊢ iprop(|={Set.univ}=> bigSep S Ψ) := by
  classical
  refine BI.Entails.trans ?_ (bigSep_fupd S Ψ)
  refine (sep_mono_left (BI.bigSep_of_persistent S R)).trans ?_
  rw [← bigSep_sep']; exact bigSep_mono h

/-- The slots of the first three grants are given away. -/
theorem give_first (s : Bool) : iprop(Ctx X κ ιs ∗ Start c s ∗ bufAny c s) ⊢ iprop(|={Set.univ}=> Given c s) := by
  unfold Start Given
  iintro ⟨#HC, ⟨Hrd, Hb, HpR, HpS, Hat, H1, H2, H3, H4⟩, Hbuf⟩
  ihave Hbuf := (buf_cut c s) $$ Hbuf
  ihave Hbuf := (Entails.of_eq (slots_window (Φ := room c s) 0)) $$ Hbuf
  ihave ⟨Hr0, Hbuf⟩ := (run_take (Φ := fun x => room c s (sl x)) (show 0 < 0 + 5 by omega)) $$ Hbuf
  ihave ⟨Hr1, Hbuf⟩ := (run_take (Φ := fun x => room c s (sl x)) (show 0 + 1 < 0 + 5 by omega)) $$ Hbuf
  have hg : ∀ k < 3, iprop(Ctx X κ ιs ∗ (room c s (sl (k + 2)) ∗ Release.readerAt ES (src s c, s, k) 0 ∗ bigSep (Finset.Ico 2 7) (posR c s)))
      ⊢ iprop(|={Set.univ}=> (grant (src s c) s k ∗ bigSep (Finset.Ico 2 7) (posR (F := F) c s))) := fun k hk => by
    iintro ⟨#HC, Hr, Hrd, Hp⟩
    ihave ⟨Hs, Hp⟩ := (run_at (Φ := posR c s) (x := k + 2) (by omega) (by omega)) $$ Hp
    unfold posR
    icases Hs with ⟨Hs, #Hrr⟩
    ihave Hp := Hp $$ [Hs]
    · isplitl [Hs]; · iexact Hs
      iexact Hrr
    imod (give (X := X) (κ := κ) (ιs := ιs) c s (show k < 14 by omega)) $$ [Hr Hrd] with #Hg
    · isplitr; · iexact HC
      isplitl [Hr]; · iexact Hr
      isplitl [Hrd]; · iexact Hrd
      iexact Hrr
    imodintro
    isplitr; · iexact Hg
    iexact Hp
  ihave ⟨Hd0, Hrd⟩ := (run_take (Φ := fun k => Release.readerAt ES (src s c, s, k) 0) (show 0 < 3 by omega)) $$ Hrd
  ihave ⟨Hd1, Hrd⟩ := (run_take (Φ := fun k => Release.readerAt ES (src s c, s, k) 0) (show 0 + 1 < 3 by omega)) $$ Hrd
  ihave ⟨Hd2, -⟩ := (run_take (Φ := fun k => Release.readerAt ES (src s c, s, k) 0) (show 0 + 1 + 1 < 3 by omega)) $$ Hrd
  ihave ⟨Hr2, Hbuf⟩ := (run_take (Φ := fun x => room c s (sl x)) (show 0 + 1 + 1 < 0 + 5 by omega)) $$ Hbuf
  ihave ⟨Hr3, Hbuf⟩ := (run_take (Φ := fun x => room c s (sl x)) (show 0 + 1 + 1 + 1 < 0 + 5 by omega)) $$ Hbuf
  ihave ⟨Hr4, -⟩ := (run_take (Φ := fun x => room c s (sl x)) (show 0 + 1 + 1 + 1 + 1 < 0 + 5 by omega)) $$ Hbuf
  imod (hg 0 (by omega)) $$ [Hr2 Hd0 HpR] with ⟨#Hg0, HpR⟩
  · isplitr; · iexact HC
    isplitl [Hr2]; · iexact Hr2
    isplitl [Hd0] <;> iassumption
  imod (hg 1 (by omega)) $$ [Hr3 Hd1 HpR] with ⟨#Hg1, HpR⟩
  · isplitr; · iexact HC
    isplitl [Hr3]; · iexact Hr3
    isplitl [Hd1] <;> iassumption
  imod (hg 2 (by omega)) $$ [Hr4 Hd2 HpR] with ⟨#Hg2, HpR⟩
  · isplitr; · iexact HC
    isplitl [Hr4]; · iexact Hr4
    isplitl [Hd2] <;> iassumption
  imodintro
  isplitl [Hr0]; · iexact Hr0
  isplitl [Hr1]; · iexact Hr1
  isplitl [Hb]; · iexact Hb
  isplitl [HpR]; · iexact HpR
  isplitl [HpS]; · iexact HpS
  isplitl [Hat]; · iexact Hat
  isplitr
  · iapply (run_put (Φ := grant (src s c) s) (show 0 ≤ 2 by omega)); isplitr; · iexact Hg2
    iapply (run_put (Φ := grant (src s c) s) (show 0 ≤ 1 by omega)); isplitr; · iexact Hg1
    iapply (run_put (Φ := grant (src s c) s) (show 0 ≤ 0 by omega)); isplitr; · iexact Hg0
    rw [Finset.Ico_self, bigSep_empty]; iempintro
  isplitl [H1]; · iexact H1
  isplitl [H2]; · iexact H2
  isplitl [H3] <;> iassumption

/-- A device's handshake unit of one direction, with the first three grants of it. -/
theorem greet_step (s : Bool) (O₂ : CellTallies nD τ sig ℕ) :
    Tri c (semSignalWord (src s c) barS 1#32 : K (F := F))
      iprop(Ctx X κ ιs ∗ (barTok c s ∗ bigSep (Finset.Ico 0 3) (grant (src s c) s)) ∗ ow c (tallyAt (barC (src s c)) 1 1 + O₂))
      iprop(Ctx X κ ιs ∗ bigSep (Finset.Ico 0 3) (grant (src s c) s) ∗ ow c O₂) := by
  intro k Kt
  simp only [semSignalWord, Prog.lift, Prog.bind_op, Prog.bind_ret]
  unfold ow barTok
  iintro ⟨#HC, ⟨⟨Htok, #Hr⟩, #Hg⟩, ⟨%W, HO⟩⟩ Hk
  iapply (Rounds.wp_signal 𝒱₀ ER (ringRd X) (c : Thread nD τ) none (dst := (src s c : Thread nD τ)) (κ := κ (src s c, 2))
      (d := s.toNat) (r := 0) (by rw [duties_bar]; cases s <;> decide) ((amount_bar X (src s c) 0 s.toNat).trans (by decide)) 1
      (O₀ := tallyAt (barC (src s c)) 1 1 + O₂) O₂ (by rw [add_comm]; rfl))
    $$ [HO Htok]
  · isplitr; · iapply (ctx_cell X κ ιs (src s c, 2)); iexact HC
    isplitl [HO]; · iexact HO
    isplitl [Htok]; · iexact Htok
    isplitr
    · rw [payload_bar, Finset.range_eq_Ico, show decide (s.toNat = 1) = s by cases s <;> rfl]; iexact Hg
    iexact Hr
  iintro HO
  iapply Hk
  isplitr; · iexact HC
  isplitr; · iexact Hg
  iexists _; iexact HO

/-- The handshake's wait brings the first three grants of both directions. -/
theorem greet_wait (O : CellTallies nD τ sig ℕ) (hA : Above 1 O) :
    Tri c (semWaitWord barS 2#32 : K (F := F))
      iprop(Ctx X κ ιs ∗ (cred (tallyAt (barC c) 1 2) ∗ atPos ER (barC c) 0 ∅ 0) ∗ ow c O)
      iprop(Ctx X κ ιs ∗ (atPos ER (barC c) 1 ∅ 0 ∗ bigSep (Finset.Ico 0 3) (grant c false) ∗ bigSep (Finset.Ico 0 3) (grant c true)) ∗ ow c O) := by
  intro k Kt
  simp only [semWaitWord, Prog.lift, Prog.bind_op, Prog.bind_ret]
  unfold ow
  iintro ⟨#HC, ⟨Hc, Hat⟩, ⟨%W, HO⟩⟩ Hk
  iapply (Rounds.wp_wait_rest_token 𝒱₀ ER (ringRd X) (c : Thread nD τ) none (κ := κ (c, 2))
      (wpE_semWait_eq 𝒱₀ (c : Thread nD τ) none Set.univ) (Set.mem_univ _) 1 (O := O) (W := W) (R := 0) (m := 0) (T := ∅)
      (by rw [show (ringRd X).expect (c.tc, SemLoc.reg barS) 0 = _ from expect_bar X c]; decide)) $$ [Hc HO Hat]
  · isplitr; · iapply (ctx_cell X κ ιs (c, 2)); iexact HC
    isplitl [Hc]; · iexact Hc
    isplitl [HO]; · iexact HO
    isplitr; · iapply (mayWait c _ (by omega) hA); iapply (ctx_lev X κ ιs); iexact HC
    iexact Hat
  iintro ⟨HO, Hat, -, Hpay⟩
  ihave Hpay := (Entails.of_eq (rest_bar X c)) $$ Hpay
  rw [Finset.range_eq_Ico]
  icases Hpay with ⟨#HgA, #HgB⟩
  iapply Hk
  isplitr; · iexact HC
  isplitl [Hat]
  · isplitl [Hat]; · iexact Hat
    isplitr <;> iassumption
  iexists _; iexact HO

/-- A device with its scratch, before its program. -/
def Open (c : Dev nD) : sProp 𝕄 :=
  iprop((cred (tallyAt (barC c) 1 2) ∗ atPos ER (barC c) 0 ∅ 0) ∗ (Start c false ∗ bufAny c false) ∗ (Start c true ∗ bufAny c true))

/-- The handshake. -/
theorem greet_tri :
    Tri c (greet (F := F) (prv c) (nxt c))
      iprop(Ctx X κ ιs ∗ Open c ∗ ow c (O₀ c))
      iprop(Ctx X κ ιs ∗ (atPos ER (barC c) 1 ∅ 0 ∗ Ready c false ∗ Ready c true) ∗ ow c (dues c false 0 0 + dues c true 0 0)) := by
  have hA : Above 1 (dues c false 0 0 + dues c true 0 0) := above_add (above_dues c false (by omega) (by omega)) (above_dues c true (by omega) (by omega))
  intro k Kt
  unfold Open
  iintro ⟨#HC, ⟨Hbar, ⟨HA, HfA⟩, ⟨HB, HfB⟩⟩, HO⟩ Hk
  imod (give_first (X := X) (κ := κ) (ιs := ιs) c false) $$ [HA HfA] with HA
  · isplitr; · iexact HC
    isplitl [HA] <;> iassumption
  imod (give_first (X := X) (κ := κ) (ιs := ιs) c true) $$ [HB HfB] with HB
  · isplitr; · iexact HC
    isplitl [HB] <;> iassumption
  unfold greet Given Ready O₀
  rw [bind_assoc]
  icases HA with ⟨A1, A2, A3, A4, A5, A6, #A7, A8⟩
  icases HB with ⟨B1, B2, B3, B4, B5, B6, #B7, B8⟩
  iapply (greet_step (X := X) (κ := κ) (ιs := ιs) c false _ _ Kt) $$ [A3 HO]
  · isplitr; · iexact HC
    isplitl [A3]; · isplitl [A3]; · iexact A3
                    iexact A7
    iexact HO
  iintro ⟨-, -, HO⟩
  rw [bind_assoc]
  iapply (greet_step (X := X) (κ := κ) (ιs := ιs) c true _ _ Kt) $$ [B3 HO]
  · isplitr; · iexact HC
    isplitl [B3]; · isplitl [B3]; · iexact B3
                    iexact B7
    iexact HO
  iintro ⟨-, -, HO⟩
  iapply (greet_wait (X := X) (κ := κ) (ιs := ιs) c _ hA _ Kt) $$ [Hbar HO]
  · isplitr; · iexact HC
    isplitl [Hbar] <;> iassumption
  iintro ⟨-, ⟨Hat, #HgA, #HgB⟩, HO⟩
  iapply Hk
  isplitr; · iexact HC
  isplitr [HO]; rotate_left; · iexact HO
  isplitl [Hat]; · iexact Hat
  isplitl [A1 A2 A4 A5 A6 A8]
  · isplitl [A1]; · iexact A1
    isplitl [A2]; · iexact A2
    isplitl [A4]; · iexact A4
    isplitl [A5]; · iexact A5
    isplitl [A6]; · iexact A6
    isplitr; · iexact HgA
    isplitr; · iexact A7
    iexact A8
  · isplitl [B1]; · iexact B1
    isplitl [B2]; · iexact B2
    isplitl [B4]; · iexact B4
    isplitl [B5]; · iexact B5
    isplitl [B6]; · iexact B6
    isplitr; · iexact HgB
    isplitr; · iexact B7
    iexact B8

/-- The device's own chunks. -/
theorem fill_tri :
    Tri c (fill (F := F) (Memref.whole cc0_stg0_0) (dir false) (dir true))
      iprop(inPts X c ∗ ((room c false (sl 0) ∗ room c false (sl 1)) ∗ (room c true (sl 0) ∗ room c true (sl 1))))
      iprop(inPts X c ∗ ((piece X fullShare c false 0 ∗ piece X fullShare c false 1) ∗ (piece X fullShare c true 0 ∗ piece X fullShare c true 1))) := by
  intro k Kt
  unfold fill
  iintro ⟨HX, ⟨A0, A1⟩, ⟨B0, B1⟩⟩ Hk
  rw [bind_assoc]
  iapply (own_step X c false 0 _ Kt) $$ [HX A0]
  · isplitl [HX]; · iexact HX
    iexact A0
  iintro ⟨HX, A0⟩
  rw [bind_assoc]
  iapply (own_step X c false 1 _ Kt) $$ [HX A1]
  · isplitl [HX]; · iexact HX
    iexact A1
  iintro ⟨HX, A1⟩
  rw [bind_assoc]
  iapply (own_step X c true 0 _ Kt) $$ [HX B0]
  · isplitl [HX]; · iexact HX
    iexact B0
  iintro ⟨HX, B0⟩
  iapply (own_step X c true 1 _ Kt) $$ [HX B1]
  · isplitl [HX]; · iexact HX
    iexact B1
  iintro ⟨HX, B1⟩
  iapply Hk
  isplitl [HX]; · iexact HX
  isplitl [A0 A1]; · isplitl [A0]; · iexact A0
                     iexact A1
  isplitl [B0]; · iexact B0
  iexact B1

omit [FloatOps F] in
/-- A direction whose first two slots are filled is at the counts before the first step. -/
theorem filled (s : Bool) :
    iprop((piece X fullShare c s 0 ∗ piece X fullShare c s 1) ∗ bigSep (Finset.Ico 2 7) (posR c s) ∗ bigSep (Finset.Ico 0 5) (posS c s) ∗ atPos ER (crdC c s) 0 ∅ 0
    ∗ bigSep (Finset.Ico 0 3) (grant c s) ∗ bigSep (Finset.Ico 0 3) (grant (src s c) s)
    ∗ bigSep (Finset.Ico 0 14) (sendTok c s) ∗ bigSep (Finset.Ico 0 11) (grantTok c s)
    ∗ bigSep (Finset.Ico 2 16) (recvCred c s) ∗ bigSep (Finset.Ico 0 11) (crdCred c s))
      ⊢ StrC X c s (cnt 0) := by
  show _ ⊢ Str X c s 2 0 0 0 0
  unfold Str crdSt
  iintro ⟨⟨H0, H1⟩, HpR, HpS, Hat, Hg, Hg', H3, H4, H5, H6⟩
  isplitl [H0 H1]
  · iapply (run_put (Φ := piece X fullShare c s) (show 0 ≤ 1 by omega)); isplitl [H1]; · iexact H1
    iapply (run_put (Φ := piece X fullShare c s) (show 0 ≤ 0 by omega)); isplitl [H0]; · iexact H0
    rw [Finset.Ico_self, bigSep_empty]; iempintro
  isplitr; · rw [Finset.Ico_self, bigSep_empty]; iempintro
  isplitr; · rw [Finset.Ico_self, bigSep_empty]; iempintro
  isplitl [HpR]; · iexact HpR
  isplitl [HpS]; · iexact HpS
  isplitl [Hat]
  · iexists ∅
    isplitr; · ipureintro; exact ⟨Finset.empty_subset _, by decide⟩
    isplitl [Hat]; · iexact Hat
    rw [bigSep_empty]; iempintro
  isplitl [Hg]; · iexact Hg
  isplitl [Hg']; · iexact Hg'
  isplitl [H3]; · iexact H3
  isplitl [H4]; · iexact H4
  isplitl [H5]; · iexact H5
  isplitl [H6]; · iexact H6
  rw [Finset.Ico_self, bigSep_empty]; iempintro

/-! ## The end -/

/-- A direction after the last step: its buffer is whole, its semaphores at rest. -/
theorem close_dir (s : Bool) :
    iprop(Ctx X κ ιs ∗ StrC X c s (cnt 16)) ⊢ iprop(|={Set.univ}=> (bufAny c s ∗ half s (fun k => semVal (kcell (c, k)) 0))) := by
  show iprop(Ctx X κ ιs ∗ Str X c s 16 11 14 14 11) ⊢ _
  unfold Str crdSt half kcell
  simp only [csem_crd, csem_snd, csem_rcv]
  iintro ⟨#HC, H1, -, H3, HpR, HpS, ⟨%T, %hT, Hat, -⟩, -⟩
  have hT' : T = Finset.range 11 := Finset.Subset.antisymm hT.1 (by
    have h := hT.2
    have h0 : (Finset.range 11 \ T).card = 0 := by omega
    exact Finset.sdiff_eq_empty_iff_subset.1 (Finset.card_eq_zero.1 h0))
  subst hT'
  imod (Rounds.fupd_skip ER (ringRd X) (κ := κ (c, iCrd s)) (Finset.subset_of_eq (duties_crd X c s)) (expect_crd X c s).symm (Set.mem_univ _)) $$ [Hat] with ⟨Hat, -⟩
  · isplitr; · iapply (ctx_crd X κ ιs c s); iexact HC
    iexact Hat
  imod (Rounds.cell_close ER (ringRd X) (Set.mem_univ (κ (c, iCrd s))) (fun h => h) (R := 0 + 1) (duties_crd_later X c s)) $$ [Hat] with Hz
  · isplitr; · iapply (ctx_crd X κ ιs c s); iexact HC
    iexact Hat
  have hS : ∀ x ∈ Finset.Ico 14 (14 + 5), iprop(Ctx X κ ιs ∗ posS (F := F) c s x) ⊢ iprop(|={Set.univ}=> semVal (sndC c s (sl x)) 0) := fun x hx => by
    unfold posS
    iintro ⟨#HC, Hat, -⟩
    iapply (Rounds.cell_close ER (ringRd X) (Set.mem_univ (κ (c, iSnd s (sl x)))) (fun h => h) (R := x / 5) (duties_snd_later X c s (Finset.mem_Ico.1 hx).1))
    isplitr; · iapply (ctx_snd X κ ιs c s (sl x)); iexact HC
    iexact Hat
  have hR : ∀ x ∈ Finset.Ico 16 (16 + 5), iprop(Ctx X κ ιs ∗ posR (F := F) c s x) ⊢ iprop(|={Set.univ}=> semVal (rcvC c s (sl x)) 0) := fun x hx => by
    unfold posR
    iintro ⟨#HC, Hat, -⟩
    iapply (Rounds.cell_close ER (ringRd X) (Set.mem_univ (κ (c, iRcv s (sl x)))) (fun h => h) (R := (x - 2) / 5) (duties_rcv_later X c s (Finset.mem_Ico.1 hx).1))
    isplitr; · iapply (ctx_rcv X κ ιs c s (sl x)); iexact HC
    iexact Hat
  imod (each_fupd hS) $$ [HpS] with HzS
  · isplitr; · iexact HC
    iexact HpS
  imod (each_fupd hR) $$ [HpR] with HzR
  · isplitr; · iexact HC
    iexact HpR
  imodintro
  isplitl [H1 H3]
  · iapply (buf_join c s)
    rw [slots_window (Φ := room c s) 11]
    have hm : bigSep (Finset.Ico 11 (11 + 5)) (piece X fullShare c s) ⊢ bigSep (Finset.Ico 11 (11 + 5)) (fun x => room (F := F) c s (sl x)) :=
      bigSep_mono fun x _ => piece_room X c s x
    iapply hm
    ihave ⟨Ha, H1⟩ := (run_take (Φ := piece X fullShare c s) (show 14 < 16 by omega)) $$ H1
    ihave ⟨Hb, -⟩ := (run_take (Φ := piece X fullShare c s) (show 14 + 1 < 16 by omega)) $$ H1
    iapply (run_put (Φ := piece X fullShare c s) (show 11 ≤ 15 by omega)); isplitl [Hb]; · iexact Hb
    iapply (run_put (Φ := piece X fullShare c s) (show 11 ≤ 14 by omega)); isplitl [Ha]; · iexact Ha
    iexact H3
  isplitl [Hz]; · iexact Hz
  isplitl [HzS]
  · rw [slots_window (Φ := fun i => semVal (sndC c s i) 0) 14]; iexact HzS
  · rw [slots_window (Φ := fun i => semVal (rcvC c s i) 0) 16]; iexact HzR

/-- The handshake's semaphore at rest. -/
theorem close_bar : iprop(Ctx X κ ιs ∗ atPos ER (barC c) 1 ∅ 0) ⊢ iprop(|={Set.univ}=> semVal (kcell (c, 2)) 0) := by
  iintro ⟨#HC, Hat⟩
  iapply (Rounds.cell_close ER (ringRd X) (Set.mem_univ (κ (c, 2))) (fun h => h) (R := 1) (duties_bar_later X c))
  isplitr; · iapply (ctx_cell X κ ιs (c, 2)); iexact HC
  iexact Hat

theorem rowChunk_lt (r : ℕ) : rowChunk c r < 16 := by
  unfold rowChunk; by_cases h : 2 ≤ r / 128 % 4 <;> simp [rowDir, h] <;> omega

omit [FloatOps F] in
/-- The result buffer, whatever it holds. -/
def outAny (c : Dev nD) : sProp 𝕄 :=
  iprop(∃ g : S4096x1024.Idx → Elt F .f32, (Memref.whole cc0_stg2_0).view.loc (c : Thread nD τ) ↦{fullShare} g)
/-- The result buffer with the result in it. -/
def outPts (X : Blocks (F := F)) (Wt : Cols (F := F)) (c : Dev nD) : sProp 𝕄 :=
  (Memref.whole cc0_stg2_0).view.loc (c : Thread nD τ) ↦{fullShare} (outAt X Wt c)

/-- The whole program of a device. -/
theorem body_tri :
    Tri c (body (F := F) (Memref.whole cc0_stg0_0) (Memref.whole cc0_stg1_0) (Memref.whole cc0_stg2_0) (dir false) (dir true))
      iprop(Ctx X κ ιs ∗ Open c ∗ ow c (O₀ c) ∗ inPts X c ∗ colPts Wt c ∗ outAny c)
      iprop((bufAny c false ∗ bufAny c true) ∗ bigSep Finset.univ (fun k => semVal (kcell (c, k)) 0) ∗ ow c 0
        ∗ inPts X c ∗ colPts Wt c ∗ outPts X Wt c) := by
  intro k Kt
  unfold body
  simp only [Prog.lift, Prog.bind_op, Prog.bind_ret, wp_deviceId]
  iintro ⟨#HC, Hop, HO, HX, HW, Hout⟩ Hk
  rw [bind_assoc]
  iapply (greet_tri (X := X) (κ := κ) (ιs := ιs) c _ Kt) $$ [Hop HO]
  · isplitr; · iexact HC
    isplitl [Hop] <;> iassumption
  unfold Ready
  iintro ⟨-, ⟨Hbar, ⟨A0, A1, AR⟩, ⟨B0, B1, BR⟩⟩, HO⟩
  rw [bind_assoc]
  iapply (fill_tri (X := X) c _ Kt) $$ [HX A0 A1 B0 B1]
  · isplitl [HX]; · iexact HX
    isplitl [A0 A1]; · isplitl [A0] <;> iassumption
    isplitl [B0] <;> iassumption
  iintro ⟨HX, AP, BP⟩
  ihave HA := (filled (X := X) c false) $$ [AP AR]
  · isplitl [AP] <;> iassumption
  ihave HB := (filled (X := X) c true) $$ [BP BR]
  · isplitl [BP] <;> iassumption
  iapply (run_tri (X := X) (Wt := Wt) (κ := κ) (ιs := ιs) c 16 le_rfl _ Kt) $$ [HA HB HO HW Hout]
  · unfold St Core Out outAny
    isplitr [HW Hout]
    · isplitr; · iexact HC
      isplitl [HA]; · iexact HA
      isplitl [HB]; · iexact HB
      iexact HO
    isplitl [HW]; · iexact HW
    icases Hout with ⟨%g, Hout⟩
    iexists g
    isplitr; · ipureintro; intro i hi; exact absurd hi (Nat.not_lt_zero _)
    iexact Hout
  unfold St Core Out
  iintro ⟨⟨-, HA, HB, HO⟩, HW, ⟨%g, %hg, Hout⟩⟩
  obtain rfl : g = outAt X Wt c := funext fun i => hg i (rowChunk_lt c _)
  imod (close_dir (X := X) (κ := κ) (ιs := ιs) c false) $$ [HA] with ⟨HfA, HzA⟩
  · isplitr; · iexact HC
    iexact HA
  imod (close_dir (X := X) (κ := κ) (ιs := ιs) c true) $$ [HB] with ⟨HfB, HzB⟩
  · isplitr; · iexact HC
    iexact HB
  imod (close_bar (X := X) (κ := κ) (ιs := ιs) c) $$ [Hbar] with Hz
  · isplitr; · iexact HC
    iexact Hbar
  iapply Hk
  isplitl [HfA HfB]; · isplitl [HfA] <;> iassumption
  isplitl [Hz HzA HzB]
  · rw [cells_split]
    isplitl [Hz]; · iexact Hz
    isplitl [HzA] <;> iassumption
  isplitl [HO]
  · rw [show duesC c false (cnt 16) + duesC c true (cnt 16) = 0 by
      show dues c false 14 11 + dues c true 14 11 = 0
      rw [dues_end, dues_end, add_zero]]
    iexact HO
  isplitl [HX]; · iexact HX
  isplitl [HW]; · iexact HW
  unfold outPts; iexact Hout

end Cert.KernelIdeal.Ring
-- ==== Proof.KernelIdeal.Deal.lean ====
/-
How the ghost state of the launch is dealt to the devices: the positions of their own semaphores, the rights to the
payments they make and to the slots they fill or grant, and the credit for what they will be paid.
-/
module

public import proofs.«01_k».proof.Proof.KernelIdeal.Ends

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Small facts about conjunctions over a set -/

omit [FloatOps F] in
theorem range_fin (n : ℕ) (Φ : ℕ → sProp 𝕄) : bigSep (Finset.range n) Φ = bigSep Finset.univ (fun i : Fin n => Φ i.val) := by
  rw [← Nat.Iio_eq_range, ← Fin.map_valEmbedding_univ, bigSep_map]; rfl

omit [FloatOps F] in
theorem range_shift (k n : ℕ) (Φ : ℕ → sProp 𝕄) : bigSep (Finset.Ico k (n + k)) Φ = bigSep (Finset.range n) (fun i => Φ (i + k)) := by
  have h : Finset.Ico k (n + k) = (Finset.range n).map ⟨fun i => i + k, fun a b hab => by dsimp only at hab; omega⟩ := by
    ext x; simp only [Finset.mem_Ico, Finset.mem_map, Finset.mem_range, Function.Embedding.coeFn_mk]
    constructor
    · intro hx; exact ⟨x - k, by omega, by show x - k + k = x; omega⟩
    · rintro ⟨a, ha, hx⟩; change a + k = x at hx; omega
  rw [h, bigSep_map]; rfl

omit [FloatOps F] in
/-- A resource per element is changed, with a record at hand that is never used up. -/
theorem each_with {I : Type} {S : Finset I} {R : sProp (MT nD τ sig ℕ (Elt F) ℕ UU ℕ)} [BI.Persistent R]
    {Φ Ψ : I → sProp (MT nD τ sig ℕ (Elt F) ℕ UU ℕ)} (h : ∀ i ∈ S, iprop(R ∗ Φ i) ⊢ Ψ i) : iprop(R ∗ bigSep S Φ) ⊢ bigSep S Ψ := by
  classical
  refine (sep_mono_left (BI.bigSep_of_persistent S R)).trans ?_
  rw [← bigSep_sep']; exact bigSep_mono h

omit [FloatOps F] in
theorem sep_swap (A B C D : sProp 𝕄) : iprop((A ∗ B) ∗ (C ∗ D)) = iprop((A ∗ C) ∗ (B ∗ D)) := by
  have h : ∀ A B C D : sProp 𝕄, iprop((A ∗ B) ∗ (C ∗ D)) ⊢ iprop((A ∗ C) ∗ (B ∗ D)) := fun A B C D => by
    iintro ⟨⟨H1, H2⟩, H3, H4⟩
    isplitl [H1 H3]; · isplitl [H1] <;> iassumption
    isplitl [H2] <;> iassumption
  exact BI.Entails.antisymm (h A B C D) (h A C B D)
omit [FloatOps F] in
theorem sep_turn (A B : sProp 𝕄) : iprop(A ∗ B) = iprop(B ∗ A) := by
  have h : ∀ A B : sProp 𝕄, iprop(A ∗ B) ⊢ iprop(B ∗ A) := fun A B => by
    iintro ⟨H1, H2⟩
    isplitl [H2] <;> iassumption
  exact BI.Entails.antisymm (h A B) (h B A)

/-! ## The payments of a device's own semaphores -/

/-- The payments the semaphores of one direction of a device expect, numbered. -/
def tokAt (c : Dev nD) (s : Bool) (n : ℕ) : GSem nD τ sig × ℕ × ℕ :=
  if n < 1 then (barC c, 0, s.toNat)
  else if n < 12 then (crdC c s, 0, n - 1)
  else if n < 26 then (sndC c s (sl (n - 12)), (n - 12) / 5, 0)
  else (rcvC c s (sl (n - 26 + 2)), (n - 26) / 5, 0)

/-- The number of a payment, read off it. -/
def tokNo (x : GSem nD τ sig × ℕ × ℕ) : Dev nD × Bool × ℕ :=
  match kind x.1.2 with
  | .bar => (x.1.1.1, decide (x.2.2 = 1), 0)
  | .crd s => (x.1.1.1, s, x.2.2 + 1)
  | .snd s i => (x.1.1.1, s, 5 * x.2.1 + i.val + 12)
  | .rcv s i => (x.1.1.1, s, 5 * x.2.1 + (i.val + 3) % 5 + 26)
  | .other => (x.1.1.1, false, 0)

theorem tokNo_tokAt (c : Dev nD) (s : Bool) (n : ℕ) : tokNo (tokAt c s n) = (c, s, n) := by
  unfold tokAt
  by_cases h1 : n < 1
  · rw [if_pos h1]; unfold tokNo; dsimp only; rw [kind_bar]
    obtain rfl : n = 0 := by omega
    cases s <;> rfl
  rw [if_neg h1]
  by_cases h2 : n < 12
  · rw [if_pos h2]; unfold tokNo; dsimp only; rw [kind_crd]
    dsimp only; rw [Prod.mk.injEq, Prod.mk.injEq]; exact ⟨rfl, rfl, by omega⟩
  rw [if_neg h2]
  by_cases h3 : n < 26
  · rw [if_pos h3]; unfold tokNo; dsimp only; rw [kind_snd]
    dsimp only; rw [Prod.mk.injEq, Prod.mk.injEq]; exact ⟨rfl, rfl, by unfold sl; dsimp only; omega⟩
  rw [if_neg h3]; unfold tokNo; dsimp only; rw [kind_rcv]
  dsimp only; rw [Prod.mk.injEq, Prod.mk.injEq]; exact ⟨rfl, rfl, by unfold sl; dsimp only; omega⟩

theorem tokAt_inj : Function.Injective (fun x : Dev nD × Bool × Fin 40 => tokAt x.1 x.2.1 x.2.2.val) := by
  rintro ⟨c, s, n⟩ ⟨c', s', n'⟩ h
  have h' := congrArg tokNo h
  dsimp only at h'
  rw [tokNo_tokAt, tokNo_tokAt, Prod.mk.injEq, Prod.mk.injEq] at h'
  obtain ⟨rfl, rfl, hn⟩ := h'
  rw [Fin.ext hn]

theorem csem_inj : Function.Injective csem := by decide
theorem kcell_inj : Function.Injective (kcell : Dev nD × Fin 23 → GSem nD τ sig) := by
  rintro ⟨c, k⟩ ⟨c', k'⟩ h
  have h1 : c = c' := congrArg (fun g : GSem nD τ sig => g.1.1) h
  have h2 : k = k' := csem_inj (congrArg Prod.snd h)
  rw [h1, h2]

def ringCells : Finset (GSem nD τ sig) := Finset.univ.map ⟨kcell, kcell_inj⟩
def ringToks : Finset (GSem nD τ sig × ℕ × ℕ) := Finset.univ.map ⟨_, tokAt_inj⟩

section Dir
variable (s : Bool) (c : Dev nD)

/-- The payments one direction of a device expects. -/
def Due : sProp 𝕄 :=
  iprop(dutyTok ER (barC c) 0 s.toNat
    ∗ bigSep (Finset.range 11) (fun d => dutyTok ER (crdC c s) 0 d)
    ∗ bigSep (Finset.range 14) (fun k => dutyTok ER (sndC c s (sl k)) (k / 5) 0)
    ∗ bigSep (Finset.range 14) (fun k => dutyTok ER (rcvC c s (sl (k + 2))) (k / 5) 0))
/-- The counts of the slots a device sends to, on the granting side and on the sending side. -/
def Slt : sProp 𝕄 :=
  iprop(bigSep (Finset.range 14) (fun k => Release.readerAt ES (c, s, k) 0) ∗ bigSep (Finset.range 14) (fun k => Release.writeTok ES (c, s, k) 1))
/-- What a device pays in one direction, and its sides of the slots' counts. -/
def Pays : sProp 𝕄 :=
  iprop((dutyTok ER (barC (src s c)) 0 s.toNat
      ∗ bigSep (Finset.range 11) (fun d => dutyTok ER (crdC (src s c) s) 0 d)
      ∗ bigSep (Finset.range 14) (fun k => dutyTok ER (sndC c s (sl k)) (k / 5) 0)
      ∗ bigSep (Finset.range 14) (fun k => dutyTok ER (rcvC (tgt s c) s (sl (k + 2))) (k / 5) 0))
    ∗ bigSep (Finset.range 14) (fun k => Release.readerAt ES (src s c, s, k) 0) ∗ bigSep (Finset.range 14) (fun k => Release.writeTok ES (c, s, k) 1))
/-- A direction's start, but for the credit. -/
def Gh : sProp 𝕄 :=
  iprop(bigSep (Finset.Ico 0 3) (fun k => Release.readerAt ES (src s c, s, k) 0) ∗ barTok c s
    ∗ bigSep (Finset.Ico 2 7) (posR c s) ∗ bigSep (Finset.Ico 0 5) (posS c s) ∗ atPos ER (crdC c s) 0 ∅ 0
    ∗ bigSep (Finset.Ico 0 14) (sendTok c s) ∗ bigSep (Finset.Ico 0 11) (grantTok c s))
end Dir

omit [FloatOps F] in
theorem dues_of_toks :
    bigSep ringToks (fun x => (dutyTok ER x.1 x.2.1 x.2.2 : sProp 𝕄)) = bigSep Finset.univ fun c : Dev nD => iprop(Due false c ∗ Due true c) := by
  have hs : ∀ (c : Dev nD) (s : Bool), bigSep Finset.univ (fun n : Fin 40 => (dutyTok ER (tokAt c s n.val).1 (tokAt c s n.val).2.1 (tokAt c s n.val).2.2 : sProp 𝕄)) = Due s c := fun c s => by
    rw [← range_fin 40 (fun n => dutyTok ER (tokAt c s n).1 (tokAt c s n).2.1 (tokAt c s n).2.2)]
    have hU : Finset.range 40 = Finset.Ico 0 1 ∪ (Finset.Ico 1 (11 + 1) ∪ (Finset.Ico 12 (14 + 12) ∪ Finset.Ico 26 (14 + 26))) := by decide
    rw [hU, BI.bigSep_union (by decide), BI.bigSep_union (by decide), BI.bigSep_union (by decide), range_shift 1 11, range_shift 12 14, range_shift 26 14,
      show Finset.Ico 0 1 = {0} from rfl, bigSep_singleton]
    unfold Due
    have e0 : tokAt c s 0 = (barC c, 0, s.toNat) := rfl
    have e1 : ∀ d ∈ Finset.range 11, tokAt c s (d + 1) = (crdC c s, 0, d) := fun d hd => by
      rw [Finset.mem_range] at hd; unfold tokAt; rw [if_neg (by omega), if_pos (by omega)]; rfl
    have e2 : ∀ k ∈ Finset.range 14, tokAt c s (k + 12) = (sndC c s (sl k), k / 5, 0) := fun k hk => by
      rw [Finset.mem_range] at hk; unfold tokAt; rw [if_neg (by omega), if_neg (by omega), if_pos (by omega), Nat.add_sub_cancel]
    have e3 : ∀ k ∈ Finset.range 14, tokAt c s (k + 26) = (rcvC c s (sl (k + 2)), k / 5, 0) := fun k hk => by
      rw [Finset.mem_range] at hk; unfold tokAt; rw [if_neg (by omega), if_neg (by omega), if_neg (by omega), Nat.add_sub_cancel]
    have b1 : bigSep (Finset.range 11) (fun d => (dutyTok ER (tokAt c s (d + 1)).1 (tokAt c s (d + 1)).2.1 (tokAt c s (d + 1)).2.2 : sProp 𝕄))
        = bigSep (Finset.range 11) (fun d => dutyTok ER (crdC c s) 0 d) := bigSep_congr fun d hd => by rw [e1 d hd]
    have b2 : bigSep (Finset.range 14) (fun k => (dutyTok ER (tokAt c s (k + 12)).1 (tokAt c s (k + 12)).2.1 (tokAt c s (k + 12)).2.2 : sProp 𝕄))
        = bigSep (Finset.range 14) (fun k => dutyTok ER (sndC c s (sl k)) (k / 5) 0) := bigSep_congr fun k hk => by rw [e2 k hk]
    have b3 : bigSep (Finset.range 14) (fun k => (dutyTok ER (tokAt c s (k + 26)).1 (tokAt c s (k + 26)).2.1 (tokAt c s (k + 26)).2.2 : sProp 𝕄))
        = bigSep (Finset.range 14) (fun k => dutyTok ER (rcvC c s (sl (k + 2))) (k / 5) 0) := bigSep_congr fun k hk => by rw [e3 k hk]
    rw [e0, b1, b2, b3]; rfl
  unfold ringToks
  rw [bigSep_map, bigSep_univ_prod]
  refine bigSep_congr fun c _ => ?_
  rw [bigSep_univ_prod, bigSep_univ_eq_bigSepL [false, true] (by decide) (by decide), bigSepL_cons_cons, bigSepL_singleton]
  show iprop(bigSep Finset.univ (fun n : Fin 40 => dutyTok ER (tokAt c false n.val).1 (tokAt c false n.val).2.1 (tokAt c false n.val).2.2)
    ∗ bigSep Finset.univ (fun n : Fin 40 => dutyTok ER (tokAt c true n.val).1 (tokAt c true n.val).2.1 (tokAt c true n.val).2.2)) = _
  rw [hs, hs]

omit [FloatOps F] in
theorem keys_split (Φ : Key → sProp 𝕄) :
    bigSep keys Φ = bigSep Finset.univ fun c : Dev nD => iprop(bigSep (Finset.range 14) (fun k => Φ (c, false, k)) ∗ bigSep (Finset.range 14) (fun k => Φ (c, true, k))) := by
  have hk : keys = (Finset.univ : Finset (Dev nD × Bool × Fin 14)).map
      ⟨fun x => ((x.1, x.2.1, x.2.2.val) : Key), fun x y h => by
        obtain ⟨c, s, n⟩ := x; obtain ⟨c', s', n'⟩ := y
        dsimp only at h
        rw [Prod.mk.injEq, Prod.mk.injEq] at h
        obtain ⟨rfl, rfl, hn⟩ := h
        rw [Fin.ext hn]⟩ := by
    ext ⟨c, s, k⟩
    unfold keys
    simp only [Finset.mem_product, Finset.mem_univ, true_and, Finset.mem_range, Finset.mem_map, Function.Embedding.coeFn_mk]
    constructor
    · intro h; exact ⟨(c, s, ⟨k, h⟩), rfl⟩
    · rintro ⟨⟨c', s', n⟩, h⟩
      rw [Prod.mk.injEq, Prod.mk.injEq] at h
      rw [← h.2.2]; exact n.isLt
  rw [hk, bigSep_map, bigSep_univ_prod]
  refine bigSep_congr fun c _ => ?_
  rw [bigSep_univ_prod, bigSep_univ_eq_bigSepL [false, true] (by decide) (by decide), bigSepL_cons_cons, bigSepL_singleton, range_fin, range_fin]
  rfl

omit [FloatOps F] in
theorem slots_split :
    iprop(bigSep keys (fun x => (Release.readerAt ES x 0 : sProp 𝕄)) ∗ bigSep (keys ×ˢ Finset.range 1) (fun x => Release.writeTok ES x.1 (x.2 + 1)))
      = bigSep Finset.univ fun c : Dev nD => iprop(Slt false c ∗ Slt true c) := by
  have hp : keys ×ˢ Finset.range 1 = keys.map ⟨fun x => (x, 0), fun x y h => congrArg Prod.fst h⟩ := by
    ext ⟨x, n⟩
    rw [Finset.mem_product, Finset.mem_range, Finset.mem_map]
    constructor
    · intro h; exact ⟨x, h.1, Prod.ext rfl (by have := h.2; show 0 = n; dsimp only at this; omega)⟩
    · rintro ⟨a, ha, h⟩
      change (a, 0) = (x, n) at h
      rw [Prod.mk.injEq] at h
      exact ⟨h.1 ▸ ha, by rw [← h.2]; exact Nat.one_pos⟩
  rw [hp, bigSep_map, keys_split, keys_split, ← bigSep_sep']
  refine bigSep_congr fun c _ => ?_
  unfold Slt
  refine sep_swap _ _ _ _

/-- The devices, each moved one on in a direction. -/
def turn (s : Bool) : Dev nD ≃ Dev nD := ⟨tgt s, src s, src_tgt s, tgt_src s⟩

omit [FloatOps F] in
/-- Payments and counts dealt around the ring. -/
theorem deal (s : Bool) :
    (bigSep Finset.univ fun c : Dev nD => iprop(Due (F := F) s c ∗ Slt s c)) ⊢ bigSep Finset.univ fun c : Dev nD => Pays s c := by
  unfold Due Slt Pays
  simp only [bigSep_sep']
  rw [bigSep_univ_equiv (turn s).symm (fun c : Dev nD => (dutyTok ER (barC c) 0 s.toNat : sProp 𝕄)),
    bigSep_univ_equiv (turn s).symm (fun c : Dev nD => bigSep (Finset.range 11) (fun d => (dutyTok ER (crdC c s) 0 d : sProp 𝕄))),
    bigSep_univ_equiv (turn s) (fun c : Dev nD => bigSep (Finset.range 14) (fun k => (dutyTok ER (rcvC c s (sl (k + 2))) (k / 5) 0 : sProp 𝕄))),
    bigSep_univ_equiv (turn s).symm (fun c : Dev nD => bigSep (Finset.range 14) (fun k => (Release.readerAt ES (c, s, k) 0 : sProp 𝕄)))]
  exact BI.Entails.refl _

/-! ## What a device starts from -/

variable (X : Blocks (F := F))

/-- The invariants of all semaphores and slots. -/
def invs (κ : Dev nD × Fin 23 → ℕ) (ιs : Key → ℕ) : sProp 𝕄 :=
  iprop(bigSep Finset.univ (fun ck : Dev nD × Fin 23 => cellInv ER (ringRd X) (κ ck) (kcell ck))
    ∗ bigSep keys (fun x => Release.slotInv ES (ιs x) x (keySlot (F := F) x)))
instance (κ : Dev nD × Fin 23 → ℕ) (ιs : Key → ℕ) : BI.Persistent (invs X κ ιs) := by unfold invs; infer_instance

/-- Every semaphore is in its first round. -/
def atFirst : sProp 𝕄 := bigSep Finset.univ fun ck : Dev nD × Fin 23 => reached ER (kcell ck) 0
instance : BI.Persistent (atFirst (F := F)) := by unfold atFirst; infer_instance

omit [FloatOps F] in
theorem first_at (ck : Dev nD × Fin 23) : (atFirst : sProp 𝕄) ⊢ reached ER (kcell ck) 0 := by
  unfold atFirst; exact bigSep_elim (Φ := fun ck => (reached ER (kcell ck) 0 : sProp 𝕄)) (Finset.mem_univ ck)
omit [FloatOps F] in
theorem first_crd (c : Dev nD) (s : Bool) : (atFirst : sProp 𝕄) ⊢ reached ER (crdC c s) 0 := by
  have h := first_at (F := F) (c, iCrd s); unfold kcell at h; rw [csem_crd] at h; exact h
omit [FloatOps F] in
theorem first_snd (c : Dev nD) (s : Bool) (i : Fin 5) : (atFirst : sProp 𝕄) ⊢ reached ER (sndC c s i) 0 := by
  have h := first_at (F := F) (c, iSnd s i); unfold kcell at h; rw [csem_snd] at h; exact h
omit [FloatOps F] in
theorem first_rcv (c : Dev nD) (s : Bool) (i : Fin 5) : (atFirst : sProp 𝕄) ⊢ reached ER (rcvC c s i) 0 := by
  have h := first_at (F := F) (c, iRcv s i); unfold kcell at h; rw [csem_rcv] at h; exact h

/-- One direction's start, from its positions and payments. -/
theorem gh_intro (c : Dev nD) (s : Bool) :
    iprop(atFirst ∗ half s (fun k => (atPos ER (kcell (c, k)) 0 ∅ 0 : sProp 𝕄)) ∗ Pays s c) ⊢ Gh s c := by
  unfold half Pays Gh kcell
  simp only [csem_crd, csem_snd, csem_rcv]
  iintro ⟨#HF, ⟨Hc, Hs, Hr⟩, ⟨T1, T2, T3, T4⟩, T5, T6⟩
  ihave Hs := (Entails.of_eq (slots_window (Φ := fun i => (atPos ER (sndC c s i) 0 ∅ 0 : sProp 𝕄)) 0)) $$ Hs
  ihave Hr := (Entails.of_eq (slots_window (Φ := fun i => (atPos ER (rcvC c s i) 0 ∅ 0 : sProp 𝕄)) 2)) $$ Hr
  simp only [Finset.range_eq_Ico]
  ihave ⟨R0, T5⟩ := (run_take (Φ := fun k => Release.readerAt ES (src s c, s, k) 0) (show 0 < 14 by omega)) $$ T5
  ihave ⟨R1, T5⟩ := (run_take (Φ := fun k => Release.readerAt ES (src s c, s, k) 0) (show 0 + 1 < 14 by omega)) $$ T5
  ihave ⟨R2, T5⟩ := (run_take (Φ := fun k => Release.readerAt ES (src s c, s, k) 0) (show 0 + 1 + 1 < 14 by omega)) $$ T5
  isplitl [R0 R1 R2]
  · iapply (run_put (Φ := fun k => Release.readerAt ES (src s c, s, k) 0) (show 0 ≤ 2 by omega)); isplitl [R2]; · iexact R2
    iapply (run_put (Φ := fun k => Release.readerAt ES (src s c, s, k) 0) (show 0 ≤ 1 by omega)); isplitl [R1]; · iexact R1
    iapply (run_put (Φ := fun k => Release.readerAt ES (src s c, s, k) 0) (show 0 ≤ 0 by omega)); isplitl [R0]; · iexact R0
    rw [Finset.Ico_self, bigSep_empty]; iempintro
  isplitl [T1]
  · unfold barTok
    isplitl [T1]; · iexact T1
    iapply (first_at (F := F) (src s c, 2)); iexact HF
  isplitl [Hr]
  · have h : iprop(atFirst ∗ bigSep (Finset.Ico 2 (2 + 5)) fun x => (atPos ER (rcvC c s (sl x)) 0 ∅ 0 : sProp 𝕄)) ⊢ bigSep (Finset.Ico 2 (2 + 5)) (posR c s) :=
      each_with fun x hx => by
        unfold posR; rw [show (x - 2) / 5 = 0 by rw [Finset.mem_Ico] at hx; omega]
        iintro ⟨#HF, H⟩; isplitl [H]; · iexact H
        iapply (first_rcv (F := F) c s (sl x)); iexact HF
    iapply h; isplitr; · iexact HF
    iexact Hr
  isplitl [Hs]
  · have h : iprop(atFirst ∗ bigSep (Finset.Ico 0 (0 + 5)) fun x => (atPos ER (sndC c s (sl x)) 0 ∅ 0 : sProp 𝕄)) ⊢ bigSep (Finset.Ico 0 (0 + 5)) (posS c s) :=
      each_with fun x hx => by
        unfold posS; rw [show x / 5 = 0 by rw [Finset.mem_Ico] at hx; omega]
        iintro ⟨#HF, H⟩; isplitl [H]; · iexact H
        iapply (first_snd (F := F) c s (sl x)); iexact HF
    iapply h; isplitr; · iexact HF
    iexact Hs
  isplitl [Hc]; · iexact Hc
  isplitl [T3 T4 T6]
  · unfold sendTok; rw [bigSep_sep', bigSep_sep']
    isplitl [T3]; · iexact T3
    isplitl [T4] <;> iassumption
  · have h : iprop(atFirst ∗ bigSep (Finset.Ico 0 11) fun d => iprop((dutyTok ER (crdC (src s c) s) 0 d : sProp 𝕄) ∗ Release.readerAt ES (src s c, s, d + 3) 0)) ⊢ bigSep (Finset.Ico 0 11) (grantTok c s) :=
      each_with fun x _ => by
        unfold grantTok
        iintro ⟨#HF, H, H'⟩; isplitl [H]; · iexact H
        isplitl [H']; · iexact H'
        iapply (first_crd (F := F) (src s c) s); iexact HF
    iapply h; isplitr; · iexact HF
    rw [bigSep_sep']
    isplitl [T2]; · iexact T2
    have h' := Entails.of_eq (range_shift 3 11 (fun k => (Release.readerAt ES (src s c, s, k) 0 : sProp 𝕄)))
    rw [Finset.range_eq_Ico] at h'
    iapply h'; iexact T5

/-- A device's part of the launch's ghost state. -/
def G (c : Dev nD) : sProp 𝕄 :=
  iprop((bigSep Finset.univ fun k : Fin 23 => roundState ER (ringRd X) (kcell (c, k)) 0)
    ∗ (bigSep Finset.univ fun k : Fin 23 => iprop(atPos ER (kcell (c, k)) 0 ∅ 0 ∗ reached ER (kcell (c, k)) 0))
    ∗ (Due false c ∗ Due true c) ∗ (if c = 0 then BI.own (ES (Release.initSlots keys 1)) else iprop(emp)))

/-- What it is when the invariants of the device's semaphores are set up. -/
def Alloc (c : Dev nD) : sProp 𝕄 :=
  iprop((bigSep Finset.univ fun k => iprop(∃ κ : ℕ, cellInv ER (ringRd X) κ (kcell (c, k))))
          ∗ (bigSep Finset.univ fun k : Fin 23 => iprop(atPos ER (kcell (c, k)) 0 ∅ 0 ∗ reached ER (kcell (c, k)) 0))
          ∗ (Due false c ∗ Due true c) ∗ (if c = 0 then BI.own (ES (Release.initSlots keys 1)) else iprop(emp)))

/-- What it is when all invariants are set up. -/
def G' (c : Dev nD) : sProp 𝕄 :=
  iprop(∃ κ ιs, invs X κ ιs ∗ atPos ER (barC c) 0 ∅ 0 ∗ Gh false c ∗ Gh true c)

omit [FloatOps F] in
theorem fund_ring : iprop(BI.own (ER (initOf ringCells ringToks)) ∗ BI.own (ES (Release.initSlots keys 1))) ⊢ (|==> bigSep Finset.univ (G X) : sProp 𝕄) := by
  have hX (Φ : GSem nD τ sig → sProp 𝕄) : bigSep ringCells Φ = bigSep Finset.univ fun c : Dev nD => bigSep Finset.univ fun k : Fin 23 => Φ (kcell (c, k)) := by
    unfold ringCells; rw [bigSep_map, bigSep_univ_prod]; rfl
  have h0 (P : sProp 𝕄) : (bigSep Finset.univ fun c : Dev nD => if c = 0 then P else iprop(emp)) = P := by
    refine (BI.bigSep_filter _ (fun c : Dev nD => c = 0) (fun _ => P)).symm.trans ?_
    rw [show (Finset.univ.filter fun c : Dev nD => c = 0) = {0} by decide, bigSep_singleton]
  iintro ⟨HX, HS⟩
  imod (Rounds.fund ER (ringRd X) ringCells ringToks) $$ HX with ⟨Hst, Hr, Hat, Htok⟩
  imodintro
  ihave Hst := (Entails.of_eq (hX fun g => roundState ER (ringRd X) g 0)) $$ Hst
  ihave Hat := (Entails.of_eq (hX fun g => atPos ER g 0 ∅ 0)) $$ Hat
  ihave Hr := (Entails.of_eq (hX fun g => reached ER g 0)) $$ Hr
  ihave Htok := (Entails.of_eq (dues_of_toks (F := F))) $$ Htok
  unfold G
  simp only [bigSep_sep', h0]
  isplitl [Hst]; · iexact Hst
  isplitl [Hat Hr]
  · isplitl [Hat] <;> iassumption
  isplitl [Htok]; · iexact Htok
  iexact HS

/-! ## The semaphores at the launch -/

/-- The semaphores of the kernel's own: all but the handshake's. -/
def osem (k : Fin 22) : SemLoc sig := csem (if k.val < 2 then ⟨k.val, by omega⟩ else ⟨k.val + 1, by omega⟩)

omit [FloatOps F] in
theorem unscopedSems0_eq (c : Dev nD) : (unscopedSems0 c : sProp 𝕄) = semVal (kcell (c, 2)) 0 := by
  unfold unscopedSems0; rw [bigSep_eq_bigSepL_of_eq [SemLoc.reg barS] (by decide) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      = (bigSep Finset.univ fun k : Fin 23 => semVal (kcell (c, k)) 0 : sProp 𝕄) := by
  rw [unscopedSems0_eq]
  have hU : (Finset.univ : Finset (Fin 23)) = insert 2 (Finset.univ.image fun k : Fin 22 => (if k.val < 2 then ⟨k.val, by omega⟩ else ⟨k.val + 1, by omega⟩ : Fin 23)) := by decide
  have hI : Function.Injective fun k : Fin 22 => (if k.val < 2 then ⟨k.val, by omega⟩ else ⟨k.val + 1, by omega⟩ : Fin 23) := by decide
  have hO : (Pipeline.ownSems0 osem c : sProp 𝕄) = bigSep Finset.univ fun k : Fin 22 => semVal ((c : Thread nD τ), osem k) 0 := rfl
  have hR : (bigSep Finset.univ fun k : Fin 23 => semVal (kcell (c, k)) 0 : sProp 𝕄)
      = iprop(semVal (kcell (c, 2)) 0 ∗ bigSep Finset.univ fun k : Fin 22 => semVal ((c : Thread nD τ), osem k) 0) := by
    rw [hU, BI.bigSep_insert (by decide), bigSep_image_of_injOn hI.injOn]; rfl
  rw [hO, hR]
  exact sep_turn _ _

omit [FloatOps F] in
theorem core_alloc (c : Dev nD) :
    iprop(Pipeline.ownSems0 (Ix := ℕ) (Name := ℕ) (U := UU) (Lvl := ℕ) (Val := Elt F) (τ := τ) osem c ∗ unscopedSems0 c ∗ G X c)
      ⊢ |={Set.univ}=> Alloc X c := by
  have hA : iprop((bigSep Finset.univ fun k : Fin 23 => semVal (kcell (c, k)) 0) ∗ bigSep Finset.univ fun k : Fin 23 => roundState ER (ringRd X) (kcell (c, k)) 0)
      ⊢ (|={Set.univ}=> bigSep Finset.univ fun k => iprop(∃ κ : ℕ, cellInv ER (ringRd X) κ (kcell (c, k))) : sProp 𝕄) := by
    rw [← bigSep_sep']
    exact (bigSep_mono fun k _ => (Rounds.body_intro ER (ringRd X) (kcell (c, k))).trans inv_alloc).trans (bigSep_fupd _ _)
  unfold G Alloc
  iintro ⟨Hos, Hus, Hst, Hrest⟩
  ihave Hv := (Entails.of_eq (sems0_eq (F := F) c)) $$ [Hos Hus]
  · isplitl [Hos] <;> iassumption
  imod hA $$ [Hv Hst] with Hinv
  · isplitl [Hv] <;> iassumption
  imodintro
  isplitl [Hinv] <;> iassumption

theorem regroup :
    (bigSep Finset.univ (Alloc X) : sProp 𝕄)
      ⊢ |={Set.univ}=> bigSep Finset.univ (G' X) := by
  have h0 (P : sProp 𝕄) : (bigSep Finset.univ fun c : Dev nD => if c = 0 then P else iprop(emp)) = P := by
    refine (BI.bigSep_filter _ (fun c : Dev nD => c = 0) (fun _ => P)).symm.trans ?_
    rw [show (Finset.univ.filter fun c : Dev nD => c = 0) = {0} by decide, bigSep_singleton]
  unfold Alloc
  rw [bigSep_sep', bigSep_sep', bigSep_sep', h0, ← bigSep_univ_prod (fun ck : Dev nD × Fin 23 => iprop(∃ κ : ℕ, cellInv ER (ringRd X) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄))]
  iintro ⟨HI, ⟨Hat, #HR⟩, Hdue, HS⟩
  ihave HK := (BI.bigSep_exists_pi Finset.univ (fun (ck : Dev nD × Fin 23) (κ : ℕ) => (cellInv ER (ringRd X) κ (kcell ck) : sProp 𝕄))) $$ HI
  icases HK with ⟨%κ, #HI⟩
  imod (Release.slots_init ES keys 1 (keySlot (F := F)) ∅ (Es := Set.univ)) $$ HS with ⟨%ιs, -, #HJ, Hrd, Hwt⟩
  imodintro
  ihave Hsl := (Entails.of_eq (slots_split (F := F))) $$ [Hrd Hwt]
  · isplitl [Hrd] <;> iassumption
  have hg : ∀ c ∈ (Finset.univ : Finset (Dev nD)), iprop((invs X κ ιs ∗ atFirst) ∗ ((bigSep Finset.univ fun k : Fin 23 => (atPos ER (kcell (c, k)) 0 ∅ 0 : sProp 𝕄)) ∗ Pays false c ∗ Pays true c)) ⊢ G' X c := fun c _ => by
    rw [cells_split]
    unfold G'
    iintro ⟨⟨#HI, #HF⟩, ⟨Hb, HA, HB⟩, PA, PB⟩
    iexists κ; iexists ιs
    isplitr; · iexact HI
    isplitl [Hb]; · iexact Hb
    isplitl [HA PA]
    · iapply (gh_intro (F := F) c false)
      isplitr; · iexact HF
      isplitl [HA] <;> iassumption
    · iapply (gh_intro (F := F) c true)
      isplitr; · iexact HF
      isplitl [HB] <;> iassumption
  have hall := each_with (S := Finset.univ) (R := iprop(invs X κ ιs ∗ atFirst)) hg
  iapply hall
  isplitr
  · unfold invs atFirst
    isplitr; · isplitr; · iexact HI
               iexact HJ
    iexact HR
  simp only [bigSep_sep']
  isplitl [Hat]; · iexact Hat
  icases Hdue with ⟨DA, DB⟩
  icases Hsl with ⟨SA, SB⟩
  isplitl [DA SA]
  · iapply (deal (F := F) false); simp only [bigSep_sep']; isplitl [DA] <;> iassumption
  · iapply (deal (F := F) true); simp only [bigSep_sep']; isplitl [DB] <;> iassumption

/-- The invariants of all devices are set up at once. -/
theorem glob :
    (bigSep Finset.univ fun c => iprop(Pipeline.ownSems0 (Ix := ℕ) (Name := ℕ) (U := UU) (Lvl := ℕ) (Val := Elt F) (τ := τ) osem c ∗ unscopedSems0 c ∗ G X c) : sProp 𝕄)
      ⊢ |={Set.univ}=> bigSep Finset.univ (G' X) := by
  have h1 : (bigSep Finset.univ fun c => iprop(Pipeline.ownSems0 (Ix := ℕ) (Name := ℕ) (U := UU) (Lvl := ℕ) (Val := Elt F) (τ := τ) osem c ∗ unscopedSems0 c ∗ G X c) : sProp 𝕄)
      ⊢ |={Set.univ}=> bigSep Finset.univ (Alloc X) := (bigSep_mono fun c _ => core_alloc X c).trans (bigSep_fupd _ _)
  iintro H
  imod h1 $$ H with H
  iapply (regroup X); iexact H

/-! ## The credit -/

omit [FloatOps F] in
theorem rcv_credit (c : Dev nD) (s : Bool) (i : Fin 5) (u n : ℕ) :
    (Pipeline.launchCred (fun d => tallyAt (rcvC (tgt s d) s i) u n) c : sProp 𝕄) ⊢ cred (tallyAt (rcvC c s i) u n) :=
  Pipeline.launchCred_tallyAt (SemLoc.dma (semOf (dir s).rs i).sem) (tgt s) (src s) (tgt_src s) (src_tgt s) u n c

omit [FloatOps F] in
theorem cred_sums (c : Dev nD) (s : Bool) (n : ℕ) :
    (Pipeline.launchCred (fun d => (∑ k ∈ Finset.Ico 0 14, tallyAt (rcvC (tgt s d) s (sl (k + 2))) (k + 2) n)
        + ∑ e ∈ Finset.Ico 0 11, tallyAt (crdC (src s d) s) (e + 4) 1) c : sProp 𝕄)
      ⊢ iprop(bigSep (Finset.Ico 2 16) (fun k => cred (tallyAt (rcvC c s (sl k)) k n)) ∗ bigSep (Finset.Ico 0 11) (crdCred c s)) := by
  have h0 : bigSep (Finset.Ico 2 16) (fun k => (cred (tallyAt (rcvC c s (sl k)) k n) : sProp 𝕄))
      = bigSep (Finset.Ico 0 14) (fun k => cred (tallyAt (rcvC c s (sl (k + 2))) (k + 2) n)) := by
    rw [← Finset.range_eq_Ico]; exact range_shift 2 14 _
  have h1 : (bigSep (Finset.Ico 0 14) fun k => (Pipeline.launchCred (fun d => tallyAt (rcvC (tgt s d) s (sl (k + 2))) (k + 2) n) c : sProp 𝕄))
      ⊢ bigSep (Finset.Ico 0 14) (fun k => cred (tallyAt (rcvC c s (sl (k + 2))) (k + 2) n)) :=
    bigSep_mono fun k _ => rcv_credit c s (sl (k + 2)) (k + 2) n
  have h2 : (bigSep (Finset.Ico 0 11) fun k => (Pipeline.launchCred (fun d => tallyAt (crdC (src s d) s) (k + 4) 1) c : sProp 𝕄))
      ⊢ bigSep (Finset.Ico 0 11) (crdCred c s) := bigSep_mono fun k _ => by
    unfold crdCred; exact Pipeline.launchCred_tallyAt (SemLoc.reg (dir s).cr.sem) (src s) (tgt s) (src_tgt s) (tgt_src s) (k + 4) 1 c
  rw [h0, Pipeline.launchCred_add, Pipeline.launchCred_sum, Pipeline.launchCred_sum]
  iintro ⟨H1, H2⟩
  isplitl [H1]
  · iapply h1; iexact H1
  · iapply h2; iexact H2

omit [FloatOps F] in
theorem cred_dir (c : Dev nD) (s : Bool) :
    (Pipeline.launchCred (fun d => dues d s 0 0) c : sProp 𝕄) ⊢ iprop(bigSep (Finset.Ico 2 16) (recvCred c s) ∗ bigSep (Finset.Ico 0 11) (crdCred c s)) :=
  cred_sums c s NN

omit [FloatOps F] in
theorem creds (c : Dev nD) :
    (Pipeline.launchCred O₀ c : sProp 𝕄) ⊢ iprop(cred (tallyAt (barC c) 1 2)
      ∗ (bigSep (Finset.Ico 2 16) (recvCred c false) ∗ bigSep (Finset.Ico 0 11) (crdCred c false))
      ∗ (bigSep (Finset.Ico 2 16) (recvCred c true) ∗ bigSep (Finset.Ico 0 11) (crdCred c true))) := by
  have hb : ∀ s, (Pipeline.launchCred (fun d => tallyAt (barC (src s d)) 1 1) c : sProp 𝕄) ⊢ cred (tallyAt (barC c) 1 1) := fun s =>
    Pipeline.launchCred_tallyAt (SemLoc.reg barS) (src s) (tgt s) (src_tgt s) (tgt_src s) 1 1 c
  unfold O₀
  rw [Pipeline.launchCred_add, Pipeline.launchCred_add, Pipeline.launchCred_add, show 2 = 1 + 1 from rfl, ← tallyAt_add]
  iintro ⟨H1, H2, H3, H4⟩
  isplitl [H1 H2]
  · iapply (cred_add _ _).2
    isplitl [H1]; · iapply (hb false); iexact H1
    iapply (hb true); iexact H2
  isplitl [H3]; · iapply (cred_dir (F := F) c false); iexact H3
  iapply (cred_dir (F := F) c true); iexact H4

omit [FloatOps F] in
theorem start_of (c : Dev nD) (s : Bool) :
    iprop(Gh s c ∗ bigSep (Finset.Ico 2 16) (recvCred c s) ∗ bigSep (Finset.Ico 0 11) (crdCred c s)) ⊢ (Start c s : sProp 𝕄) := by
  unfold Gh Start
  iintro ⟨⟨H1, H2, H3, H4, H5, H6, H7⟩, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

end Cert.KernelIdeal.Ring
-- ==== Proof.KernelIdeal.Launch.lean ====
/-
The whole program: the kernel's launch on the eight devices, from any memory with every semaphore at zero, to
the final memory with every device's columns of the result.
-/
module

public import proofs.«01_k».proof.Proof.KernelIdeal.Deal
public import proofs.«01_k».proof.Proof.Gen.KernelIdeal.Points
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

/-! ## The staged blocks are the arrays -/

def t₀ : Fin cfg0.N := ⟨0, by rw [show cfg0.N = 1 from N_0]; decide⟩
theorem fin_N (t : Fin cfg0.N) : t = t₀ := by
  obtain ⟨t, ht⟩ := t; have h : cfg0.N = 1 := N_0; exact Fin.ext (by simp only [t₀]; omega)

omit [FloatOps F] in
theorem read_in (t : Fin cfg0.N) (f : main_arg0.ty.Contents (Elt F)) : ((cfg0.win 0).blk t).view.read (Elt F) f = f := by
  funext i
  show f _ = f i
  refine congrArg f (funext fun a => Fin.ext ?_)
  show (0 * _ + 1 * (i a).val : ℕ) = (i a).val
  omega
omit [FloatOps F] in
theorem read_col (t : Fin cfg0.N) (f : main_arg1.ty.Contents (Elt F)) : ((cfg0.win 1).blk t).view.read (Elt F) f = f := by
  funext i
  show f _ = f i
  refine congrArg f (funext fun a => Fin.ext ?_)
  show (0 * _ + 1 * (i a).val : ℕ) = (i a).val
  omega
omit [FloatOps F] in
theorem read_out (t : Fin cfg0.N) (f : main_v1.ty.Contents (Elt F)) : ((cfg0.win 2).blk t).view.read (Elt F) f = f := by
  funext i
  show f _ = f i
  refine congrArg f (funext fun a => Fin.ext ?_)
  show (0 * _ + 1 * (i a).val : ℕ) = (i a).val
  omega
omit [FloatOps F] in
theorem write_out (t : Fin cfg0.N) (f w : main_v1.ty.Contents (Elt F)) :
    ((cfg0.win 2).blk t).view.write (Elt F) f w Finset.univ = w :=
  (read_out t _).symm.trans (View.read_write_univ _ _)

section Run

variable (m : (ℓ : Loc nD τ sig) → Buf (Elt F) ℓ) (ρ : Dev nD → PrngReg)

/-- The memory at launch: semaphore counters zero. -/
def s₀ : MemSt nD τ sig (Elt F) := ⟨m, fun _ => 0, ρ⟩

/-- Each device's rows of the input, and its columns of the weights. -/
def rows : Blocks (F := F) := fun c => m ((c : Thread nD τ).loc main_arg0)
def cols : Cols (F := F) := fun c => m ((c : Thread nD τ).loc main_arg1)

/-! ## What a device holds before and after the kernel -/

def start (c : Dev nD) : sProp 𝕄 :=
  iprop(G' (rows m) c
    ∗ (cred (tallyAt (barC c) 1 2)
      ∗ (bigSep (Finset.Ico 2 16) (recvCred c false) ∗ bigSep (Finset.Ico 0 11) (crdCred c false))
      ∗ (bigSep (Finset.Ico 2 16) (recvCred c true) ∗ bigSep (Finset.Ico 0 11) (crdCred c true)))
    ∗ levAts L lv)
def Φ₀ (c : Dev nD) : sProp 𝕄 := iprop(start m c ∗ bufAny c false ∗ bufAny c true)
def Φ₁ (c : Dev nD) : sProp 𝕄 :=
  iprop((bufAny c false ∗ bufAny c true) ∗ bigSep Finset.univ (fun k : Fin 23 => semVal (kcell (c, k)) 0))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => rows m c
    | ⟨1, _⟩ => cols m c
    | ⟨2, _⟩ => outAt (rows m) (cols m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

theorem before_in (c : Dev nD) (d) : (dats m ρ 0 c).before (0 : Fin 3) t₀ d = rows m c := by
  unfold Dat.before; rw [if_pos (fetch0_0 t₀)]; exact read_in t₀ (rows m c)
theorem before_col (c : Dev nD) (d) : (dats m ρ 0 c).before (1 : Fin 3) t₀ d = cols m c := by
  unfold Dat.before; rw [if_pos (fetch0_1 t₀)]; exact read_col t₀ (cols m c)

/-- A staging buffer at contents. -/
def stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt 0 t₀.succ
    ∗ stg c cc0_stg0_0 (rows m c) ∗ stg c cc0_stg1_0 (cols m c) ∗ stg c cc0_stg2_0 (outAt (rows m) (cols m) c))

theorem ctx_intro (κ : Dev nD × Fin 23 → ℕ) (ιs : Key → ℕ) : iprop(invs (rows m) κ ιs ∗ levAts L lv) ⊢ Ctx (F := F) (rows m) κ ιs := by
  unfold invs Ctx
  iintro ⟨⟨H1, H2⟩, H3⟩
  isplitl [H1]; · iexact H1
  isplitl [H2] <;> iassumption

theorem body_runs (c : Dev nD) :
    bodyPre m ρ c ⊢ wp frame (wpE (defs₀ (F := F)) 𝒱₀ (c : Thread nD τ) none) Set.univ
      (body (Memref.whole cc0_stg0_0) (Memref.whole cc0_stg1_0) (Memref.whole cc0_stg2_0) (dir false) (dir true)) (fun _ => bodyPost m ρ c) := by
  rw [← bind_pure (body (Memref.whole cc0_stg0_0) (Memref.whole cc0_stg1_0) (Memref.whole cc0_stg2_0) (dir false) (dir true))]
  unfold bodyPre Φ₀ start G' stg Dat.owesAt Pipeline.owesWithin
  iintro ⟨⟨⟨⟨%κ, %ιs, #HI, Hat, GA, GB⟩, ⟨Hcr, CA, CB⟩, #HL⟩, BA, BB⟩, ⟨%W, %hW, HO⟩, ⟨%d0, %g0, %h0, HX⟩, ⟨%d1, %g1, %h1, HW⟩, ⟨%d2, %g2, %h2, Hout⟩⟩
  obtain rfl : g0 = rows m c := h0.trans (before_in m ρ c d0)
  obtain rfl : g1 = cols m c := h1.trans (before_col m ρ c d1)
  iapply (body_tri (X := rows m) (Wt := cols m) (κ := κ) (ιs := ιs) c pure fun _ => bodyPost m ρ c) $$ [Hat GA GB Hcr CA CB BA BB HO HX HW Hout]
  · isplitr
    · iapply (ctx_intro m κ ιs)
      isplitr; · iexact HI
      iexact HL
    isplitl [Hat GA GB Hcr CA CB BA BB]
    · unfold Open
      isplitl [Hat Hcr]; · isplitl [Hcr] <;> iassumption
      isplitl [GA CA BA]
      · isplitr [BA]
        · iapply (start_of (F := F) c false); isplitl [GA] <;> iassumption
        · iexact BA
      · isplitr [BB]
        · iapply (start_of (F := F) c true); isplitl [GB] <;> iassumption
        · iexact BB
    isplitl [HO]; · unfold ow; iexists W; iexact HO
    isplitl [HX]; · unfold inPts; iexact HX
    isplitl [HW]; · unfold colPts; iexact HW
    unfold outAny; iexists g2; iexact Hout
  iintro ⟨HB, Hz, HO, HX, HW, Hout⟩
  rw [show (pure ⟨⟩ : Prog (TpuEff nD τ sig (Elt F) Λ₀ .tc) PUnit) = .ret ⟨⟩ from rfl, wp_ret]; imodintro
  unfold bodyPost Φ₁ stg Dat.owesAt Pipeline.owesWithin ow inPts colPts outPts
  isplitl [HB Hz]; · isplitl [HB] <;> iassumption
  isplitl [HO]
  · icases HO with ⟨%W', HO⟩
    iexists W'
    isplitr; · ipureintro; exact fun _ _ => Or.inl trivial
    iexact HO
  isplitl [HX]
  · iexists _; isplitr; · (ipureintro; rfl)
    iexact HX
  isplitl [HW]
  · iexists _; isplitr; · (ipureintro; rfl)
    iexact HW
  iexists _; isplitr; · (ipureintro; rfl)
  iexact Hout

set_option maxRecDepth 16000 in
/-- The kernel's body is correct at its one grid point. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m ρ c)
  rw [body_eq]
  exact body_runs m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf ringCells ringToks, Release.initSlots keys 1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (rows m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufAny
  iintro ⟨Hs, -, HA, HB⟩
  isplitl [Hs]; · iexact Hs
  isplitl [HA]; · iexact HA
  iexact HB

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufAny
  iintro ⟨⟨HA, HB⟩, Hz⟩
  ihave Hz := (Entails.of_eq (sems0_eq (F := F) c).symm) $$ Hz
  icases Hz with ⟨Ho, Hu⟩
  isplitl [Hu]; · iexact Hu
  isplitl [Ho]; · iexact Ho
  isplitl [HA]; · iexact HA
  iexact HB

theorem above_O₀ (c : Dev nD) : Above 0 (O₀ c) :=
  above_add (above_tally _ _ (by omega) (by omega)) (above_add (above_tally _ _ (by omega) (by omega))
    (above_add (above_dues c false (by omega) (by omega)) (above_dues c true (by omega) (by omega))))

theorem waits (c : Dev nD) : (levAts L lv : sProp 𝕄) ⊢ Pipeline.cellsWaits cfgs (dats m ρ) 0 0 c :=
  Pipeline.cellsWaits_intro cfgs (dats m ρ) 0 0 c fun w s t =>
    mayWait c _ (n := 0) (by omega) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (rows m)) (G' := G' (rows m)) (u₀ := u₀)
    (hu₀ := by
      unfold u₀
      iintro Hu
      ihave H := (ownU_pair _ _) $$ Hu
      icases H with ⟨HP, HX⟩
      ihave H := (own_pair_emb EQ (initOf ringCells ringToks) (Release.initSlots keys 1)) $$ HX
      imod (fund_ring (rows m)) $$ H with HG
      imodintro
      isplitl [HP] <;> iassumption)
    (hglob := glob (rows m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_out (c : Dev nD) : finalA m ρ c (2 : Fin 3) = outAt (rows m) (cols m) c := by
  unfold finalA
  rw [show cfg0.N = 0 + 1 from N_0]
  unfold Dat.arrAt
  dsimp only
  rw [dif_pos (show 0 < cfg0.N from t₀.isLt), if_pos (flush0_2 _)]
  exact write_out t₀ _ _

/-- From any memory with every semaphore at zero, every run ends, with the inputs unchanged, each device's columns of
    the result in its result array, and every semaphore at zero. -/
theorem run_result : θ_run defs (onTc (τ := τ) (main (F := F))) ⟨m, fun _ => 0, ρ⟩ (fun r =>
    (∀ c : Dev nD, r.2.mem ((c.tc : Thread nD τ).loc main_v1) = outAt (rows m) (cols m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c =>
    ⟨(h.1 c (2 : Fin 3)).trans (final_out m ρ c),
      (h.1 c (0 : Fin 3)).trans ((dats (F := F) m ρ 0 c).arrAt_in (0 : Fin 3) rfl _),
      (h.1 c (1 : Fin 3)).trans ((dats (F := F) m ρ 0 c).arrAt_in (1 : Fin 3) rfl _)⟩, h.2⟩) (run_main m ρ)

end Run

end Cert.KernelIdeal.Ring
-- ==== Proof.Kernel.Same.lean ====
/-
The kernel program is, operation by operation, the same as the one its exact-arithmetic version runs: what is proved of
the one, for any floating-point values, holds of the other.
-/
module

public import proofs.«01_k».proof.Proof.KernelIdeal.Launch
public import proofs.«01_k».proof.Kernel
public import proofs.«01_k».proof.Proof.Gen.Kernel

@[expose] public section

noncomputable section

namespace Cert.Kernel.Ring

open Idealize.ShloMosaic
open Idealize.SL Idealize.SL.Sem

variable {F : FTy → Type} [FloatOps F]

/-- The two programs' kernel bodies agree. -/
theorem bodies_eq : @Cert.Kernel.defs₀ F _ _ = @Cert.KernelIdeal.defs₀ F _ _ := by
  unfold Cert.Kernel.defs₀ Cert.KernelIdeal.defs₀
  refine congrArg Defs.onTc (funext fun l => ?_)
  obtain ⟨l, hl⟩ := l
  have h1 : l < 1 := hl
  obtain rfl : l = 0 := by omega
  funext x
  with_unfolding_all rfl

/-- So do their tables of programs. -/
theorem defs_eq : @Cert.Kernel.defs F _ _ = @Cert.KernelIdeal.defs F _ _ := by
  unfold Cert.Kernel.defs Cert.KernelIdeal.defs
  rw [bodies_eq]
  with_unfolding_all rfl

/-- From any memory with every semaphore at zero, every run ends, with the inputs unchanged and every semaphore at
    zero. -/
theorem run_frame (m : (ℓ : Loc Cert.Kernel.nD Cert.Kernel.τ Cert.Kernel.sig) → Buf (Elt F) ℓ)
    (g : Dev Cert.Kernel.nD → PrngReg) :
    θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
          ∧ r.2.mem ((c.tc : Thread Cert.Kernel.nD Cert.Kernel.τ).loc Cert.Kernel.main_arg1)
            = m ((c.tc : Thread Cert.Kernel.nD Cert.Kernel.τ).loc Cert.Kernel.main_arg1))
      ∧ r.2.sem = fun _ => 0) := by
  rw [defs_eq]
  with_unfolding_all exact (θ_run _ _ _).mono (fun _ h => ⟨fun c => (h.1 c).2, h.2⟩) (Cert.KernelIdeal.Ring.run_result (F := F) m g)

end Cert.Kernel.Ring
-- ==== Proof.KernelIdeal.Value.lean ====
/-
What the kernel computes, in exact arithmetic: each device's result is its columns of the reference's result.

Each element of either result is one function, the activation, of an inner product of a row of the whole input with a
column of the whole weights. The row a device multiplies has come to it from the device whose block it is in.
-/
module

public import proofs.«01_k».proof.Proof.KernelIdeal.Rows
public import proofs.«01_k».proof.ReferenceIdeal
public import proofs.«01_k».proof.Proof.Gen.ReferenceIdeal
public import Idealize.ShloMosaic.Lib.Layout
public import Idealize.ShloMosaic.Lib.Pointwise

@[expose] public section

noncomputable section

namespace Cert.KernelIdeal.Ring

open Cert.KernelIdeal Cert.KernelIdeal.Gen
open Idealize.ShloMosaic

/-- The activation: half of `y`, times one plus the hyperbolic tangent of a multiple of `y` and its cube. -/
def act (y : EReal) : EReal :=
  (Ideal.ofBits .f32 0x3F000000#32 * y)
    * (Ideal.ofBits .f32 0x3F800000#32
      + Ideal.tanh (Ideal.ofBits .f32 0x3F4C422A#32 * (y + Ideal.ofBits .f32 0x3D372713#32 * (y * y * y))))

/-- The reference's result, of the whole input and the whole weights. -/
def refOut (x : FVec Ideal Cert.ReferenceIdeal.S4096x4096 .f32) (w : FVec Ideal Cert.ReferenceIdeal.S4096x8192 .f32) :
    FVec Ideal Cert.ReferenceIdeal.S4096x8192 .f32 :=
  have d := Host.dotGeneral Cert.ReferenceIdeal.dot_S4096x4096_S4096x8192_S4096x8192_1_0_0_1_n_n none x w
  have k := fun b => broadcastInDim Cert.ReferenceIdeal.S4096x8192 ![] Cert.ReferenceIdeal.Facts₀.bcast_S_S4096x8192
    (constant (F := Ideal) Cert.ReferenceIdeal.S_ .f32 b)
  mulf (mulf (k 0x3F000000#32) d)
    (addf (k 0x3F800000#32) (Host.tanh (mulf (k 0x3F4C422A#32) (addf d (mulf (k 0x3D372713#32) (mulf (mulf d d) d))))))

set_option maxRecDepth 16384 in
theorem refOut_apply (x : FVec Ideal Cert.ReferenceIdeal.S4096x4096 .f32) (w : FVec Ideal Cert.ReferenceIdeal.S4096x8192 .f32)
    (r : Fin 4096) (l : Fin 8192) : refOut x w (ix2 r l) = act (∑ k : Fin 4096, x (ix2 r k) * w (ix2 k l)) := by
  unfold act
  pointwise [refOut, Cert.ReferenceIdeal.dot_S4096x4096_S4096x8192_S4096x8192_1_0_0_1_n_n]

set_option maxRecDepth 16384 in
theorem gel_apply (A : S128x4096.Idx → Elt Ideal .f32) (W : S4096x1024.Idx → Elt Ideal .f32) (r : Fin 128) (l : Fin 1024) :
    gel A W (ix2 r l) = act (∑ k : Fin 4096, A (ix2 r k) * W (ix2 k l)) := by
  unfold act
  pointwise [gel, k0_pay6, dot_S128x4096_S4096x1024_S128x1024_1_0_0_1_n_n]
  simp only [mul_assoc]

/-- The device whose block has come `n` devices far in direction `s`, to device `c`. -/
theorem src_iter (s : Bool) (c : Dev nD) (n : Fin 8) :
    ((src s)^[n.val] c).val = bif s then (c.val + n.val) % 8 else (c.val + 8 - n.val) % 8 := by
  revert s c n; decide

/-- The device a row's chunk started at is the one whose block the row is in. -/
theorem src_row (c : Dev nD) {r : ℕ} (hr : r < 4096) : ((src (rowDir r))^[rowChunk c r / 2] c).val = r / 512 := by
  have hc : c.val < 8 := c.isLt
  have hlt : rowChunk c r / 2 < 8 := by
    unfold rowChunk; by_cases h : 2 ≤ r / 128 % 4 <;> simp [rowDir, h] <;> omega
  rw [src_iter (rowDir r) c ⟨rowChunk c r / 2, hlt⟩]
  unfold rowChunk
  by_cases h : 2 ≤ r / 128 % 4 <;> simp [rowDir, h] <;> omega

/-- And its place in that block is the row's. -/
theorem row_place (c : Dev nD) {r : ℕ} (hr : r < 4096) :
    256 * (rowDir r).toNat + 128 * (rowChunk c r % 2) + r % 128 = r % 512 := by
  have hc : c.val < 8 := c.isLt
  unfold rowChunk
  by_cases h : 2 ≤ r / 128 % 4 <;> simp [rowDir, h] <;> omega

/-- A row of the chunk that covers row `r` of the result is row `r` of the whole input. -/
theorem chunk_row (X : Blocks (F := Ideal)) (x : FVec Ideal Cert.ReferenceIdeal.S4096x4096 .f32)
    (hX : ∀ c, X c = Layout.block ⟨2, ![512, 4096]⟩ ⟨2, ![4096, 4096]⟩ 0 8 c x) (c : Dev nD) (r k : Fin 4096) :
    chunk X (rowDir r.val) c (rowChunk c r.val) (ix2 ⟨r.val % 128, Nat.mod_lt _ (by decide)⟩ k) = x (ix2 r k) := by
  unfold chunk
  rw [hX]
  refine congrArg x (funext fun a => Fin.ext ?_)
  have h1 := src_row c r.isLt
  have h2 := row_place c r.isLt
  have h3 : r.val = 512 * (r.val / 512) + r.val % 512 := (Nat.div_add_mod _ _).symm
  fin_cases a
  · refine Eq.trans (Layout.idx_rows_val _ _ _).1 ?_
    rw [h1, ValueKit.rect_emb_unit_val]
    show r.val / 512 * 512 + (256 * (rowDir r.val).toNat + 128 * (rowChunk c r.val % 2) + r.val % 128) = r.val
    omega
  · refine Eq.trans (Layout.idx_rows_val _ _ _).2 ?_
    rw [ValueKit.rect_emb_unit_val]
    exact Nat.zero_add k.val

/-- Each device's result is its columns of the reference's. -/
theorem outAt_eq (X : Blocks (F := Ideal)) (Wt : Cols (F := Ideal)) (x : FVec Ideal Cert.ReferenceIdeal.S4096x4096 .f32)
    (w : FVec Ideal Cert.ReferenceIdeal.S4096x8192 .f32)
    (hX : ∀ c, X c = Layout.block ⟨2, ![512, 4096]⟩ ⟨2, ![4096, 4096]⟩ 0 8 c x)
    (hW : ∀ c, Wt c = Layout.block ⟨2, ![4096, 1024]⟩ ⟨2, ![4096, 8192]⟩ 1 8 c w) (c : Dev nD) :
    outAt X Wt c = Layout.block ⟨2, ![4096, 1024]⟩ ⟨2, ![4096, 8192]⟩ 1 8 c (refOut x w) := by
  funext i
  obtain ⟨r, l, rfl⟩ : ∃ (r : Fin 4096) (l : Fin 1024), i = ix2 r l := ⟨i 0, i 1, eq_ix2 i⟩
  have hc : c.val < 8 := c.isLt
  have hcol (k : Fin 4096) : Wt c (ix2 k l) = w (ix2 k ⟨c.val * 1024 + l.val, by omega⟩) := by
    rw [hW]
    refine congrArg w (funext fun a => Fin.ext ?_)
    fin_cases a
    · exact (Layout.idx_cols_val _ _ _).1
    · exact (Layout.idx_cols_val _ _ _).2
  have hout : (Layout.block ⟨2, ![4096, 1024]⟩ ⟨2, ![4096, 8192]⟩ 1 8 c (refOut x w)) (ix2 r l)
      = refOut x w (ix2 r ⟨c.val * 1024 + l.val, by omega⟩) := by
    refine congrArg (refOut x w) (funext fun a => Fin.ext ?_)
    fin_cases a
    · exact (Layout.idx_cols_val _ _ _).1
    · exact (Layout.idx_cols_val _ _ _).2
  have hin : inChunk (ix2 r l) = ix2 ⟨r.val % 128, Nat.mod_lt _ (by decide)⟩ l := by
    funext a; fin_cases a <;> rfl
  rw [hout, refOut_apply]
  unfold outAt
  rw [hin, gel_apply]
  refine congrArg act (Finset.sum_congr rfl fun k _ => ?_)
  rw [← hcol k]
  exact congrArg (· * Wt c (ix2 k l)) (chunk_row X x hX c r k)

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Same
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel runs to its end, leaving its arguments and its semaphores as it found them. -/
theorem frame_kernel : Cert.quiescent_Kernel := fun m g _ => Cert.Kernel.Ring.run_frame m g

/-- So does the kernel in exact arithmetic. -/
theorem frame_ideal : Cert.quiescent_KernelIdeal := fun m g _ =>
  (θ_run Cert.KernelIdeal.defs _ _).mono (fun _ h => ⟨fun c => (h.1 c).2, h.2⟩) (Cert.KernelIdeal.Ring.run_result m g)

/-- So does the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- In exact arithmetic each device's result is its columns of the reference's. -/
theorem same_result : Cert.algebraic_KernelIdeal_ReferenceIdeal := fun m g m' g' _ hargs => by
  refine ⟨Cert.KernelIdeal.Ring.refOut (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono (fun r h c => ⟨(h.1 c).1.trans ?_, (h.1 c).2⟩)
      (Cert.KernelIdeal.Ring.run_result m g),
    (θ_run Cert.ReferenceIdeal.defs _ _).mono (fun r h => ?_) (Cert.ReferenceIdeal.Value.run m' g')⟩
  · exact h 0
  · exact Cert.KernelIdeal.Ring.outAt_eq _ _ _ _ (fun c => (hargs c).1) (fun c => (hargs c).2) c

theorem claim : Cert.Claim := ⟨Cert.Kernel.Gen.facts, Cert.KernelIdeal.Gen.facts, Cert.ReferenceIdeal.Gen.facts,
  frame_kernel, frame_ideal, frame_reference, trivial, same_result⟩

end Cert.Proof

end
